-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8x100000 : Shape := ⟨3, ![64, 8, 100000]⟩
abbrev S100000 : Shape := ⟨1, ![100000]⟩
abbrev S_ : Shape := ⟨0, ![]⟩
abbrev S102400 : Shape := ⟨1, ![102400]⟩
abbrev S1x102400 : Shape := ⟨2, ![1, 102400]⟩
abbrev S64x100000 : Shape := ⟨2, ![64, 100000]⟩
abbrev S64x1 : Shape := ⟨2, ![64, 1]⟩
abbrev S64x8x3200 : Shape := ⟨3, ![64, 8, 3200]⟩
abbrev S1x3200 : Shape := ⟨2, ![1, 3200]⟩
abbrev S64x3200 : Shape := ⟨2, ![64, 3200]⟩
abbrev S64x128 : Shape := ⟨2, ![64, 128]⟩
abbrev S64x1x128 : Shape := ⟨3, ![64, 1, 128]⟩
abbrev S1x128 : Shape := ⟨2, ![1, 128]⟩
abbrev S64 : Shape := ⟨1, ![64]⟩

abbrev nBuf : Space → Nat
  | .hbm => 9
  | .vmem => 9
  | .smem => 0
  | _ => 0

abbrev bufTy : (tb : Table) → Fin (tcTables nBuf tb) → BufTy
  | .hbm, ⟨0, _⟩ => ⟨S64x8x100000, .f32⟩
  | .hbm, ⟨1, _⟩ => ⟨S100000, .f32⟩
  | .hbm, ⟨2, _⟩ => ⟨S_, .f32⟩
  | .hbm, ⟨3, _⟩ => ⟨S_, .f32⟩
  | .hbm, ⟨4, _⟩ => ⟨S102400, .f32⟩
  | .hbm, ⟨5, _⟩ => ⟨S1x102400, .f32⟩
  | .hbm, ⟨6, _⟩ => ⟨S64x100000, .f32⟩
  | .hbm, ⟨7, _⟩ => ⟨S64x1, .i32⟩
  | .hbm, ⟨8, _⟩ => ⟨S64, .i32⟩
  | .local _ .vmem, ⟨0, _⟩ => ⟨S64x8x3200, .f32⟩
  | .local _ .vmem, ⟨1, _⟩ => ⟨S64x8x3200, .f32⟩
  | .local _ .vmem, ⟨2, _⟩ => ⟨S1x3200, .f32⟩
  | .local _ .vmem, ⟨3, _⟩ => ⟨S1x3200, .f32⟩
  | .local _ .vmem, ⟨4, _⟩ => ⟨S64x3200, .f32⟩
  | .local _ .vmem, ⟨5, _⟩ => ⟨S64x3200, .f32⟩
  | .local _ .vmem, ⟨6, _⟩ => ⟨S64x1, .i32⟩
  | .local _ .vmem, ⟨7, _⟩ => ⟨S64x128, .f32⟩
  | .local _ .vmem, ⟨8, _⟩ => ⟨S64x128, .i32⟩
  | _, _ => ⟨S64x8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_off1 (c0_i32_4 : BitVec 32) : Fin 3 → Nat :=
  let c0_6 : Index := 0#32
  let c7 : Index := 7#32
  let c128_i32_5 : BitVec 32 := 128#32
  let v15 : BitVec 32 := Scalar.muli c0_i32_4 c128_i32_5
  let v16 : Index := Scalar.indexCast v15
  ![0, 7, v16.toNat]
def k0_off2 (c0_i32_4 : BitVec 32) : Fin 2 → Nat :=
  let c0_7 : Index := 0#32
  let c128_i32_5 : BitVec 32 := 128#32
  let v15 : BitVec 32 := Scalar.muli c0_i32_4 c128_i32_5
  let v19 : Index := Scalar.indexCast v15
  ![0, v19.toNat]
def k0_off3 (c0_i32_4 : BitVec 32) : Fin 2 → Nat :=
  let c0_8 : Index := 0#32
  let c128_i32_5 : BitVec 32 := 128#32
  let v15 : BitVec 32 := Scalar.muli c0_i32_4 c128_i32_5
  let v24 : Index := Scalar.indexCast v15
  ![0, v24.toNat]
def k0_cond2 (i : grid0.Coords) : BitVec 1 :=
  let arg0 : BitVec 32 := BitVec.ofNat 32 (i 0).val
  let c31_i32 : BitVec 32 := 31#32
  let v5019 : BitVec 1 := Scalar.cmpi .eq arg0 c31_i32
  let v5020 : BitVec 32 := Scalar.extui v5019
  let c0_i32_1623 : BitVec 32 := 0#32
  let v5021 : BitVec 1 := Scalar.cmpi .ne v5020 c0_i32_1623
  v5021

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S64x8x100000 : Shape := ⟨3, ![64, 8, 100000]⟩
abbrev S100000 : Shape := ⟨1, ![100000]⟩
abbrev S64x1x100000 : Shape := ⟨3, ![64, 1, 100000]⟩
abbrev S64x100000 : Shape := ⟨2, ![64, 100000]⟩
abbrev S1x100000 : Shape := ⟨2, ![1, 100000]⟩
abbrev S_ : Shape := ⟨0, ![]⟩
abbrev S1 : Shape := ⟨1, ![1]⟩
abbrev S2 : Shape := ⟨1, ![2]⟩
abbrev S1x1 : Shape := ⟨2, ![1, 1]⟩
abbrev S64 : Shape := ⟨1, ![64]⟩

abbrev nBuf : Space → Nat
  | .hbm => 291
  | .vmem => 0
  | .smem => 0
  | _ => 0

abbrev hbmTy0_0 (i : Nat) : BufTy := match i % 128 with
  | 0 => ⟨S64x8x100000, .f32⟩
  | 1 => ⟨S100000, .f32⟩
  | 2 => ⟨S64x1x100000, .f32⟩
  | 3 => ⟨S64x100000, .f32⟩
  | 4 => ⟨S1x100000, .f32⟩
  | 5 => ⟨S64x100000, .f32⟩
  | 6 => ⟨S64x100000, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .f32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S64x100000, .i64⟩
  | 28 => ⟨S64x100000, .i64⟩
  | 29 => ⟨S_, .i64⟩
  | 30 => ⟨S64x100000, .i64⟩
  | 31 => ⟨S64x100000, .i64⟩
  | 32 => ⟨S_, .i64⟩
  | 33 => ⟨S64x100000, .i64⟩
  | 34 => ⟨S64x100000, .i64⟩
  | 35 => ⟨S64x100000, .i64⟩
  | 36 => ⟨S_, .i64⟩
  | 37 => ⟨S64x100000, .i64⟩
  | 38 => ⟨S64x100000, .i64⟩
  | 39 => ⟨S64x100000, .i32⟩
  | 40 => ⟨S64x100000, .i32⟩
  | 41 => ⟨S_, .i32⟩
  | 42 => ⟨S_, .i32⟩
  | 43 => ⟨S_, .i32⟩
  | 44 => ⟨S64x100000, .i32⟩
  | 45 => ⟨S64x100000, .i32⟩
  | 46 => ⟨S64x100000, .i32⟩
  | 47 => ⟨S64x100000, .i32⟩
  | 48 => ⟨S64x100000, .i32⟩
  | 49 => ⟨S_, .i32⟩
  | 50 => ⟨S64x100000, .i32⟩
  | 51 => ⟨S64x100000, .i32⟩
  | 52 => ⟨S_, .i32⟩
  | 53 => ⟨S64x100000, .i32⟩
  | 54 => ⟨S64x100000, .i32⟩
  | 55 => ⟨S64x100000, .i32⟩
  | 56 => ⟨S64x100000, .i32⟩
  | 57 => ⟨S64x100000, .i32⟩
  | 58 => ⟨S_, .i32⟩
  | 59 => ⟨S64x100000, .i32⟩
  | 60 => ⟨S64x100000, .i32⟩
  | 61 => ⟨S_, .i32⟩
  | 62 => ⟨S64x100000, .i32⟩
  | 63 => ⟨S64x100000, .i32⟩
  | 64 => ⟨S64x100000, .i32⟩
  | 65 => ⟨S64x100000, .i32⟩
  | 66 => ⟨S64x100000, .i32⟩
  | 67 => ⟨S_, .i32⟩
  | 68 => ⟨S64x100000, .i32⟩
  | 69 => ⟨S64x100000, .i32⟩
  | 70 => ⟨S_, .i32⟩
  | 71 => ⟨S64x100000, .i32⟩
  | 72 => ⟨S64x100000, .i32⟩
  | 73 => ⟨S64x100000, .i32⟩
  | 74 => ⟨S64x100000, .i32⟩
  | 75 => ⟨S64x100000, .i32⟩
  | 76 => ⟨S_, .i32⟩
  | 77 => ⟨S64x100000, .i32⟩
  | 78 => ⟨S64x100000, .i32⟩
  | 79 => ⟨S_, .i32⟩
  | 80 => ⟨S64x100000, .i32⟩
  | 81 => ⟨S64x100000, .i32⟩
  | 82 => ⟨S64x100000, .i32⟩
  | 83 => ⟨S64x100000, .i32⟩
  | 84 => ⟨S64x100000, .i32⟩
  | 85 => ⟨S64x100000, .i32⟩
  | 86 => ⟨S64x100000, .i32⟩
  | 87 => ⟨S64x100000, .i32⟩
  | 88 => ⟨S_, .i32⟩
  | 89 => ⟨S64x100000, .i32⟩
  | 90 => ⟨S64x100000, .i32⟩
  | 91 => ⟨S64x100000, .i32⟩
  | 92 => ⟨S_, .i32⟩
  | 93 => ⟨S64x100000, .i32⟩
  | 94 => ⟨S64x100000, .i32⟩
  | 95 => ⟨S_, .i32⟩
  | 96 => ⟨S64x100000, .i32⟩
  | 97 => ⟨S64x100000, .i32⟩
  | 98 => ⟨S64x100000, .i32⟩
  | 99 => ⟨S64x100000, .i32⟩
  | 100 => ⟨S64x100000, .i32⟩
  | 101 => ⟨S_, .i32⟩
  | 102 => ⟨S64x100000, .i32⟩
  | 103 => ⟨S64x100000, .i32⟩
  | 104 => ⟨S_, .i32⟩
  | 105 => ⟨S64x100000, .i32⟩
  | 106 => ⟨S64x100000, .i32⟩
  | 107 => ⟨S64x100000, .i32⟩
  | 108 => ⟨S64x100000, .i32⟩
  | 109 => ⟨S64x100000, .i32⟩
  | 110 => ⟨S_, .i32⟩
  | 111 => ⟨S64x100000, .i32⟩
  | 112 => ⟨S64x100000, .i32⟩
  | 113 => ⟨S_, .i32⟩
  | 114 => ⟨S64x100000, .i32⟩
  | 115 => ⟨S64x100000, .i32⟩
  | 116 => ⟨S64x100000, .i32⟩
  | 117 => ⟨S64x100000, .i32⟩
  | 118 => ⟨S64x100000, .i32⟩
  | 119 => ⟨S_, .i32⟩
  | 120 => ⟨S64x100000, .i32⟩
  | 121 => ⟨S64x100000, .i32⟩
  | 122 => ⟨S_, .i32⟩
  | 123 => ⟨S64x100000, .i32⟩
  | 124 => ⟨S64x100000, .i32⟩
  | 125 => ⟨S64x100000, .i32⟩
  | 126 => ⟨S64x100000, .i32⟩
  | 127 => ⟨S64x100000, .i32⟩
  | _ => ⟨S64x8x100000, .f32⟩

abbrev hbmTy0_1 (i : Nat) : BufTy := match i % 128 with
  | 0 => ⟨S64x100000, .i32⟩
  | 1 => ⟨S64x100000, .i32⟩
  | 2 => ⟨S64x100000, .i32⟩
  | 3 => ⟨S_, .i32⟩
  | 4 => ⟨S64x100000, .i32⟩
  | 5 => ⟨S64x100000, .i32⟩
  | 6 => ⟨S64x100000, .i32⟩
  | 7 => ⟨S_, .i32⟩
  | 8 => ⟨S64x100000, .i32⟩
  | 9 => ⟨S64x100000, .i32⟩
  | 10 => ⟨S_, .i32⟩
  | 11 => ⟨S64x100000, .i32⟩
  | 12 => ⟨S64x100000, .i32⟩
  | 13 => ⟨S64x100000, .i32⟩
  | 14 => ⟨S64x100000, .i32⟩
  | 15 => ⟨S64x100000, .i32⟩
  | 16 => ⟨S_, .i32⟩
  | 17 => ⟨S64x100000, .i32⟩
  | 18 => ⟨S64x100000, .i32⟩
  | 19 => ⟨S_, .i32⟩
  | 20 => ⟨S64x100000, .i32⟩
  | 21 => ⟨S64x100000, .i32⟩
  | 22 => ⟨S64x100000, .i32⟩
  | 23 => ⟨S64x100000, .i32⟩
  | 24 => ⟨S64x100000, .i32⟩
  | 25 => ⟨S_, .i32⟩
  | 26 => ⟨S64x100000, .i32⟩
  | 27 => ⟨S64x100000, .i32⟩
  | 28 => ⟨S_, .i32⟩
  | 29 => ⟨S64x100000, .i32⟩
  | 30 => ⟨S64x100000, .i32⟩
  | 31 => ⟨S64x100000, .i32⟩
  | 32 => ⟨S64x100000, .i32⟩
  | 33 => ⟨S64x100000, .i32⟩
  | 34 => ⟨S_, .i32⟩
  | 35 => ⟨S64x100000, .i32⟩
  | 36 => ⟨S64x100000, .i32⟩
  | 37 => ⟨S_, .i32⟩
  | 38 => ⟨S64x100000, .i32⟩
  | 39 => ⟨S64x100000, .i32⟩
  | 40 => ⟨S64x100000, .i32⟩
  | 41 => ⟨S64x100000, .i32⟩
  | 42 => ⟨S64x100000, .i32⟩
  | 43 => ⟨S64x100000, .i32⟩
  | 44 => ⟨S64x100000, .i32⟩
  | 45 => ⟨S64x100000, .i32⟩
  | 46 => ⟨S_, .i32⟩
  | 47 => ⟨S64x100000, .i32⟩
  | 48 => ⟨S64x100000, .i32⟩
  | 49 => ⟨S64x100000, .i32⟩
  | 50 => ⟨S_, .i32⟩
  | 51 => ⟨S64x100000, .i32⟩
  | 52 => ⟨S64x100000, .i32⟩
  | 53 => ⟨S_, .i32⟩
  | 54 => ⟨S64x100000, .i32⟩
  | 55 => ⟨S64x100000, .i32⟩
  | 56 => ⟨S64x100000, .i32⟩
  | 57 => ⟨S64x100000, .i32⟩
  | 58 => ⟨S64x100000, .i32⟩
  | 59 => ⟨S_, .i32⟩
  | 60 => ⟨S64x100000, .i32⟩
  | 61 => ⟨S64x100000, .i32⟩
  | 62 => ⟨S_, .i32⟩
  | 63 => ⟨S64x100000, .i32⟩
  | 64 => ⟨S64x100000, .i32⟩
  | 65 => ⟨S64x100000, .i32⟩
  | 66 => ⟨S64x100000, .i32⟩
  | 67 => ⟨S64x100000, .i32⟩
  | 68 => ⟨S_, .i32⟩
  | 69 => ⟨S64x100000, .i32⟩
  | 70 => ⟨S64x100000, .i32⟩
  | 71 => ⟨S_, .i32⟩
  | 72 => ⟨S64x100000, .i32⟩
  | 73 => ⟨S64x100000, .i32⟩
  | 74 => ⟨S64x100000, .i32⟩
  | 75 => ⟨S64x100000, .i32⟩
  | 76 => ⟨S64x100000, .i32⟩
  | 77 => ⟨S_, .i32⟩
  | 78 => ⟨S64x100000, .i32⟩
  | 79 => ⟨S64x100000, .i32⟩
  | 80 => ⟨S_, .i32⟩
  | 81 => ⟨S64x100000, .i32⟩
  | 82 => ⟨S64x100000, .i32⟩
  | 83 => ⟨S64x100000, .i32⟩
  | 84 => ⟨S64x100000, .i32⟩
  | 85 => ⟨S64x100000, .i32⟩
  | 86 => ⟨S64x100000, .i32⟩
  | 87 => ⟨S64x100000, .i32⟩
  | 88 => ⟨S64x100000, .i32⟩
  | 89 => ⟨S_, .i32⟩
  | 90 => ⟨S64x100000, .i32⟩
  | 91 => ⟨S64x100000, .i32⟩
  | 92 => ⟨S64x100000, .i32⟩
  | 93 => ⟨S_, .i32⟩
  | 94 => ⟨S64x100000, .i32⟩
  | 95 => ⟨S64x100000, .i32⟩
  | 96 => ⟨S_, .i32⟩
  | 97 => ⟨S64x100000, .i32⟩
  | 98 => ⟨S64x100000, .i32⟩
  | 99 => ⟨S64x100000, .i32⟩
  | 100 => ⟨S64x100000, .i32⟩
  | 101 => ⟨S64x100000, .i32⟩
  | 102 => ⟨S_, .i32⟩
  | 103 => ⟨S64x100000, .i32⟩
  | 104 => ⟨S64x100000, .i32⟩
  | 105 => ⟨S_, .i32⟩
  | 106 => ⟨S64x100000, .i32⟩
  | 107 => ⟨S64x100000, .i32⟩
  | 108 => ⟨S64x100000, .i32⟩
  | 109 => ⟨S64x100000, .i32⟩
  | 110 => ⟨S64x100000, .i32⟩
  | 111 => ⟨S_, .i32⟩
  | 112 => ⟨S64x100000, .i32⟩
  | 113 => ⟨S64x100000, .i32⟩
  | 114 => ⟨S_, .i32⟩
  | 115 => ⟨S64x100000, .i32⟩
  | 116 => ⟨S64x100000, .i32⟩
  | 117 => ⟨S64x100000, .i32⟩
  | 118 => ⟨S64x100000, .i32⟩
  | 119 => ⟨S64x100000, .i32⟩
  | 120 => ⟨S_, .i32⟩
  | 121 => ⟨S64x100000, .i32⟩
  | 122 => ⟨S64x100000, .i32⟩
  | 123 => ⟨S_, .i32⟩
  | 124 => ⟨S64x100000, .i32⟩
  | 125 => ⟨S64x100000, .i32⟩
  | 126 => ⟨S64x100000, .i32⟩
  | 127 => ⟨S64x100000, .i32⟩
  | _ => ⟨S64x8x100000, .f32⟩

abbrev hbmTy0_2 (i : Nat) : BufTy := match i % 128 with
  | 0 => ⟨S64x100000, .i32⟩
  | 1 => ⟨S64x100000, .i32⟩
  | 2 => ⟨S64x100000, .i32⟩
  | 3 => ⟨S64x100000, .i32⟩
  | 4 => ⟨S_, .i32⟩
  | 5 => ⟨S64x100000, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S_, .i32⟩
  | 12 => ⟨S64x100000, .i32⟩
  | 13 => ⟨S64x100000, .i32⟩
  | 14 => ⟨S64x100000, .f32⟩
  | 15 => ⟨S_, .f32⟩
  | 16 => ⟨S64x100000, .f32⟩
  | 17 => ⟨S64x100000, .f32⟩
  | 18 => ⟨S1x1, .f32⟩
  | 19 => ⟨S64x100000, .f32⟩
  | 20 => ⟨S64x100000, .f32⟩
  | 21 => ⟨S64x100000, .f32⟩
  | 22 => ⟨S64x100000, .f32⟩
  | 23 => ⟨S64x100000, .f32⟩
  | 24 => ⟨S64x100000, .f32⟩
  | 25 => ⟨S64x100000, .f32⟩
  | 26 => ⟨S64x100000, .f32⟩
  | 27 => ⟨S64x100000, .f32⟩
  | 28 => ⟨S64x100000, .f32⟩
  | 29 => ⟨S64x100000, .f32⟩
  | 30 => ⟨S64x100000, .i32⟩
  | 31 => ⟨S_, .f32⟩
  | 32 => ⟨S_, .i32⟩
  | 33 => ⟨S64, .f32⟩
  | 34 => ⟨S64, .i32⟩
  | _ => ⟨S64x8x100000, .f32⟩

abbrev hbmTy (i : Nat) : BufTy := match i / 128 with
  | 0 => hbmTy0_0 i
  | 1 => hbmTy0_1 i
  | 2 => hbmTy0_2 i
  | _ => ⟨S64x8x100000, .f32⟩

abbrev bufTy : (tb : Table) → Fin (tcTables nBuf tb) → BufTy
  | .hbm, ⟨i, _⟩ => hbmTy i
  | _, _ => ⟨S64x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_c : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_c_1 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_call0_v0 : Ref sig .tc := ⟨.hbm, 41, rfl⟩
abbrev main_call0_call0_c : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_c_0 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c_1 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_2 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_c_3 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_c_4 : Ref sig .tc := ⟨.hbm, 67, rfl⟩
abbrev main_call0_call0_v21 : Ref sig .tc := ⟨.hbm, 68, rfl⟩
abbrev main_call0_call0_v22 : Ref sig .tc := ⟨.hbm, 69, rfl⟩
abbrev main_call0_call0_c_5 : Ref sig .tc := ⟨.hbm, 70, rfl⟩
abbrev main_call0_call0_v23 : Ref sig .tc := ⟨.hbm, 71, rfl⟩
abbrev main_call0_call0_v24 : Ref sig .tc := ⟨.hbm, 72, rfl⟩
abbrev main_call0_call0_v25 : Ref sig .tc := ⟨.hbm, 73, rfl⟩
abbrev main_call0_call0_v26 : Ref sig .tc := ⟨.hbm, 74, rfl⟩
abbrev main_call0_call0_v27 : Ref sig .tc := ⟨.hbm, 75, rfl⟩
abbrev main_call0_call0_c_6 : Ref sig .tc := ⟨.hbm, 76, rfl⟩
abbrev main_call0_call0_v28 : Ref sig .tc := ⟨.hbm, 77, rfl⟩
abbrev main_call0_call0_v29 : Ref sig .tc := ⟨.hbm, 78, rfl⟩
abbrev main_call0_call0_c_7 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_v32 : Ref sig .tc := ⟨.hbm, 82, rfl⟩
abbrev main_call0_call0_v33 : Ref sig .tc := ⟨.hbm, 83, rfl⟩
abbrev main_call0_call0_v34 : Ref sig .tc := ⟨.hbm, 84, rfl⟩
abbrev main_call0_call0_v35 : Ref sig .tc := ⟨.hbm, 85, rfl⟩
abbrev main_call0_call0_v36 : Ref sig .tc := ⟨.hbm, 86, rfl⟩
abbrev main_call0_call0_v37 : Ref sig .tc := ⟨.hbm, 87, rfl⟩
abbrev main_call0_call0_c_8 : Ref sig .tc := ⟨.hbm, 88, rfl⟩
abbrev main_call0_call0_v38 : Ref sig .tc := ⟨.hbm, 89, rfl⟩
abbrev main_call0_call0_v39 : Ref sig .tc := ⟨.hbm, 90, rfl⟩
abbrev main_call0_call0_v40 : Ref sig .tc := ⟨.hbm, 91, rfl⟩
abbrev main_call0_call0_c_9 : Ref sig .tc := ⟨.hbm, 92, rfl⟩
abbrev main_call0_call0_v41 : Ref sig .tc := ⟨.hbm, 93, rfl⟩
abbrev main_call0_call0_v42 : Ref sig .tc := ⟨.hbm, 94, rfl⟩
abbrev main_call0_call0_c_10 : Ref sig .tc := ⟨.hbm, 95, rfl⟩
abbrev main_call0_call0_v43 : Ref sig .tc := ⟨.hbm, 96, rfl⟩
abbrev main_call0_call0_v44 : Ref sig .tc := ⟨.hbm, 97, rfl⟩
abbrev main_call0_call0_v45 : Ref sig .tc := ⟨.hbm, 98, rfl⟩
abbrev main_call0_call0_v46 : Ref sig .tc := ⟨.hbm, 99, rfl⟩
abbrev main_call0_call0_v47 : Ref sig .tc := ⟨.hbm, 100, rfl⟩
abbrev main_call0_call0_c_11 : Ref sig .tc := ⟨.hbm, 101, rfl⟩
abbrev main_call0_call0_v48 : Ref sig .tc := ⟨.hbm, 102, rfl⟩
abbrev main_call0_call0_v49 : Ref sig .tc := ⟨.hbm, 103, rfl⟩
abbrev main_call0_call0_c_12 : Ref sig .tc := ⟨.hbm, 104, rfl⟩
abbrev main_call0_call0_v50 : Ref sig .tc := ⟨.hbm, 105, rfl⟩
abbrev main_call0_call0_v51 : Ref sig .tc := ⟨.hbm, 106, rfl⟩
abbrev main_call0_call0_v52 : Ref sig .tc := ⟨.hbm, 107, rfl⟩
abbrev main_call0_call0_v53 : Ref sig .tc := ⟨.hbm, 108, rfl⟩
abbrev main_call0_call0_v54 : Ref sig .tc := ⟨.hbm, 109, rfl⟩
abbrev main_call0_call0_c_13 : Ref sig .tc := ⟨.hbm, 110, rfl⟩
abbrev main_call0_call0_v55 : Ref sig .tc := ⟨.hbm, 111, rfl⟩
abbrev main_call0_call0_v56 : Ref sig .tc := ⟨.hbm, 112, rfl⟩
abbrev main_call0_call0_c_14 : Ref sig .tc := ⟨.hbm, 113, rfl⟩
abbrev main_call0_call0_v57 : Ref sig .tc := ⟨.hbm, 114, rfl⟩
abbrev main_call0_call0_v58 : Ref sig .tc := ⟨.hbm, 115, rfl⟩
abbrev main_call0_call0_v59 : Ref sig .tc := ⟨.hbm, 116, rfl⟩
abbrev main_call0_call0_v60 : Ref sig .tc := ⟨.hbm, 117, rfl⟩
abbrev main_call0_call0_v61 : Ref sig .tc := ⟨.hbm, 118, rfl⟩
abbrev main_call0_call0_c_15 : Ref sig .tc := ⟨.hbm, 119, rfl⟩
abbrev main_call0_call0_v62 : Ref sig .tc := ⟨.hbm, 120, rfl⟩
abbrev main_call0_call0_v63 : Ref sig .tc := ⟨.hbm, 121, rfl⟩
abbrev main_call0_call0_c_16 : Ref sig .tc := ⟨.hbm, 122, rfl⟩
abbrev main_call0_call0_v64 : Ref sig .tc := ⟨.hbm, 123, rfl⟩
abbrev main_call0_call0_v65 : Ref sig .tc := ⟨.hbm, 124, rfl⟩
abbrev main_call0_call0_v66 : Ref sig .tc := ⟨.hbm, 125, rfl⟩
abbrev main_call0_call0_v67 : Ref sig .tc := ⟨.hbm, 126, rfl⟩
abbrev main_call0_call0_v68 : Ref sig .tc := ⟨.hbm, 127, rfl⟩
abbrev main_call0_call0_v69 : Ref sig .tc := ⟨.hbm, 128, rfl⟩
abbrev main_call0_call0_v70 : Ref sig .tc := ⟨.hbm, 129, rfl⟩
abbrev main_call0_call0_v71 : Ref sig .tc := ⟨.hbm, 130, rfl⟩
abbrev main_call0_call0_c_17 : Ref sig .tc := ⟨.hbm, 131, rfl⟩
abbrev main_call0_call0_v72 : Ref sig .tc := ⟨.hbm, 132, rfl⟩
abbrev main_call0_call0_v73 : Ref sig .tc := ⟨.hbm, 133, rfl⟩
abbrev main_call0_call0_v74 : Ref sig .tc := ⟨.hbm, 134, rfl⟩
abbrev main_call0_call0_c_18 : Ref sig .tc := ⟨.hbm, 135, rfl⟩
abbrev main_call0_call0_v75 : Ref sig .tc := ⟨.hbm, 136, rfl⟩
abbrev main_call0_call0_v76 : Ref sig .tc := ⟨.hbm, 137, rfl⟩
abbrev main_call0_call0_c_19 : Ref sig .tc := ⟨.hbm, 138, rfl⟩
abbrev main_call0_call0_v77 : Ref sig .tc := ⟨.hbm, 139, rfl⟩
abbrev main_call0_call0_v78 : Ref sig .tc := ⟨.hbm, 140, rfl⟩
abbrev main_call0_call0_v79 : Ref sig .tc := ⟨.hbm, 141, rfl⟩
abbrev main_call0_call0_v80 : Ref sig .tc := ⟨.hbm, 142, rfl⟩
abbrev main_call0_call0_v81 : Ref sig .tc := ⟨.hbm, 143, rfl⟩
abbrev main_call0_call0_c_20 : Ref sig .tc := ⟨.hbm, 144, rfl⟩
abbrev main_call0_call0_v82 : Ref sig .tc := ⟨.hbm, 145, rfl⟩
abbrev main_call0_call0_v83 : Ref sig .tc := ⟨.hbm, 146, rfl⟩
abbrev main_call0_call0_c_21 : Ref sig .tc := ⟨.hbm, 147, rfl⟩
abbrev main_call0_call0_v84 : Ref sig .tc := ⟨.hbm, 148, rfl⟩
abbrev main_call0_call0_v85 : Ref sig .tc := ⟨.hbm, 149, rfl⟩
abbrev main_call0_call0_v86 : Ref sig .tc := ⟨.hbm, 150, rfl⟩
abbrev main_call0_call0_v87 : Ref sig .tc := ⟨.hbm, 151, rfl⟩
abbrev main_call0_call0_v88 : Ref sig .tc := ⟨.hbm, 152, rfl⟩
abbrev main_call0_call0_c_22 : Ref sig .tc := ⟨.hbm, 153, rfl⟩
abbrev main_call0_call0_v89 : Ref sig .tc := ⟨.hbm, 154, rfl⟩
abbrev main_call0_call0_v90 : Ref sig .tc := ⟨.hbm, 155, rfl⟩
abbrev main_call0_call0_c_23 : Ref sig .tc := ⟨.hbm, 156, rfl⟩
abbrev main_call0_call0_v91 : Ref sig .tc := ⟨.hbm, 157, rfl⟩
abbrev main_call0_call0_v92 : Ref sig .tc := ⟨.hbm, 158, rfl⟩
abbrev main_call0_call0_v93 : Ref sig .tc := ⟨.hbm, 159, rfl⟩
abbrev main_call0_call0_v94 : Ref sig .tc := ⟨.hbm, 160, rfl⟩
abbrev main_call0_call0_v95 : Ref sig .tc := ⟨.hbm, 161, rfl⟩
abbrev main_call0_call0_c_24 : Ref sig .tc := ⟨.hbm, 162, rfl⟩
abbrev main_call0_call0_v96 : Ref sig .tc := ⟨.hbm, 163, rfl⟩
abbrev main_call0_call0_v97 : Ref sig .tc := ⟨.hbm, 164, rfl⟩
abbrev main_call0_call0_c_25 : Ref sig .tc := ⟨.hbm, 165, rfl⟩
abbrev main_call0_call0_v98 : Ref sig .tc := ⟨.hbm, 166, rfl⟩
abbrev main_call0_call0_v99 : Ref sig .tc := ⟨.hbm, 167, rfl⟩
abbrev main_call0_call0_v100 : Ref sig .tc := ⟨.hbm, 168, rfl⟩
abbrev main_call0_call0_v101 : Ref sig .tc := ⟨.hbm, 169, rfl⟩
abbrev main_call0_call0_v102 : Ref sig .tc := ⟨.hbm, 170, rfl⟩
abbrev main_call0_call0_v103 : Ref sig .tc := ⟨.hbm, 171, rfl⟩
abbrev main_call0_call0_v104 : Ref sig .tc := ⟨.hbm, 172, rfl⟩
abbrev main_call0_call0_v105 : Ref sig .tc := ⟨.hbm, 173, rfl⟩
abbrev main_call0_call0_c_26 : Ref sig .tc := ⟨.hbm, 174, rfl⟩
abbrev main_call0_call0_v106 : Ref sig .tc := ⟨.hbm, 175, rfl⟩
abbrev main_call0_call0_v107 : Ref sig .tc := ⟨.hbm, 176, rfl⟩
abbrev main_call0_call0_v108 : Ref sig .tc := ⟨.hbm, 177, rfl⟩
abbrev main_call0_call0_c_27 : Ref sig .tc := ⟨.hbm, 178, rfl⟩
abbrev main_call0_call0_v109 : Ref sig .tc := ⟨.hbm, 179, rfl⟩
abbrev main_call0_call0_v110 : Ref sig .tc := ⟨.hbm, 180, rfl⟩
abbrev main_call0_call0_c_28 : Ref sig .tc := ⟨.hbm, 181, rfl⟩
abbrev main_call0_call0_v111 : Ref sig .tc := ⟨.hbm, 182, rfl⟩
abbrev main_call0_call0_v112 : Ref sig .tc := ⟨.hbm, 183, rfl⟩
abbrev main_call0_call0_v113 : Ref sig .tc := ⟨.hbm, 184, rfl⟩
abbrev main_call0_call0_v114 : Ref sig .tc := ⟨.hbm, 185, rfl⟩
abbrev main_call0_call0_v115 : Ref sig .tc := ⟨.hbm, 186, rfl⟩
abbrev main_call0_call0_c_29 : Ref sig .tc := ⟨.hbm, 187, rfl⟩
abbrev main_call0_call0_v116 : Ref sig .tc := ⟨.hbm, 188, rfl⟩
abbrev main_call0_call0_v117 : Ref sig .tc := ⟨.hbm, 189, rfl⟩
abbrev main_call0_call0_c_30 : Ref sig .tc := ⟨.hbm, 190, rfl⟩
abbrev main_call0_call0_v118 : Ref sig .tc := ⟨.hbm, 191, rfl⟩
abbrev main_call0_call0_v119 : Ref sig .tc := ⟨.hbm, 192, rfl⟩
abbrev main_call0_call0_v120 : Ref sig .tc := ⟨.hbm, 193, rfl⟩
abbrev main_call0_call0_v121 : Ref sig .tc := ⟨.hbm, 194, rfl⟩
abbrev main_call0_call0_v122 : Ref sig .tc := ⟨.hbm, 195, rfl⟩
abbrev main_call0_call0_c_31 : Ref sig .tc := ⟨.hbm, 196, rfl⟩
abbrev main_call0_call0_v123 : Ref sig .tc := ⟨.hbm, 197, rfl⟩
abbrev main_call0_call0_v124 : Ref sig .tc := ⟨.hbm, 198, rfl⟩
abbrev main_call0_call0_c_32 : Ref sig .tc := ⟨.hbm, 199, rfl⟩
abbrev main_call0_call0_v125 : Ref sig .tc := ⟨.hbm, 200, rfl⟩
abbrev main_call0_call0_v126 : Ref sig .tc := ⟨.hbm, 201, rfl⟩
abbrev main_call0_call0_v127 : Ref sig .tc := ⟨.hbm, 202, rfl⟩
abbrev main_call0_call0_v128 : Ref sig .tc := ⟨.hbm, 203, rfl⟩
abbrev main_call0_call0_v129 : Ref sig .tc := ⟨.hbm, 204, rfl⟩
abbrev main_call0_call0_c_33 : Ref sig .tc := ⟨.hbm, 205, rfl⟩
abbrev main_call0_call0_v130 : Ref sig .tc := ⟨.hbm, 206, rfl⟩
abbrev main_call0_call0_v131 : Ref sig .tc := ⟨.hbm, 207, rfl⟩
abbrev main_call0_call0_c_34 : Ref sig .tc := ⟨.hbm, 208, rfl⟩
abbrev main_call0_call0_v132 : Ref sig .tc := ⟨.hbm, 209, rfl⟩
abbrev main_call0_call0_v133 : Ref sig .tc := ⟨.hbm, 210, rfl⟩
abbrev main_call0_call0_v134 : Ref sig .tc := ⟨.hbm, 211, rfl⟩
abbrev main_call0_call0_v135 : Ref sig .tc := ⟨.hbm, 212, rfl⟩
abbrev main_call0_call0_v136 : Ref sig .tc := ⟨.hbm, 213, rfl⟩
abbrev main_call0_call0_v137 : Ref sig .tc := ⟨.hbm, 214, rfl⟩
abbrev main_call0_call0_v138 : Ref sig .tc := ⟨.hbm, 215, rfl⟩
abbrev main_call0_call0_v139 : Ref sig .tc := ⟨.hbm, 216, rfl⟩
abbrev main_call0_call0_c_35 : Ref sig .tc := ⟨.hbm, 217, rfl⟩
abbrev main_call0_call0_v140 : Ref sig .tc := ⟨.hbm, 218, rfl⟩
abbrev main_call0_call0_v141 : Ref sig .tc := ⟨.hbm, 219, rfl⟩
abbrev main_call0_call0_v142 : Ref sig .tc := ⟨.hbm, 220, rfl⟩
abbrev main_call0_call0_c_36 : Ref sig .tc := ⟨.hbm, 221, rfl⟩
abbrev main_call0_call0_v143 : Ref sig .tc := ⟨.hbm, 222, rfl⟩
abbrev main_call0_call0_v144 : Ref sig .tc := ⟨.hbm, 223, rfl⟩
abbrev main_call0_call0_c_37 : Ref sig .tc := ⟨.hbm, 224, rfl⟩
abbrev main_call0_call0_v145 : Ref sig .tc := ⟨.hbm, 225, rfl⟩
abbrev main_call0_call0_v146 : Ref sig .tc := ⟨.hbm, 226, rfl⟩
abbrev main_call0_call0_v147 : Ref sig .tc := ⟨.hbm, 227, rfl⟩
abbrev main_call0_call0_v148 : Ref sig .tc := ⟨.hbm, 228, rfl⟩
abbrev main_call0_call0_v149 : Ref sig .tc := ⟨.hbm, 229, rfl⟩
abbrev main_call0_call0_c_38 : Ref sig .tc := ⟨.hbm, 230, rfl⟩
abbrev main_call0_call0_v150 : Ref sig .tc := ⟨.hbm, 231, rfl⟩
abbrev main_call0_call0_v151 : Ref sig .tc := ⟨.hbm, 232, rfl⟩
abbrev main_call0_call0_c_39 : Ref sig .tc := ⟨.hbm, 233, rfl⟩
abbrev main_call0_call0_v152 : Ref sig .tc := ⟨.hbm, 234, rfl⟩
abbrev main_call0_call0_v153 : Ref sig .tc := ⟨.hbm, 235, rfl⟩
abbrev main_call0_call0_v154 : Ref sig .tc := ⟨.hbm, 236, rfl⟩
abbrev main_call0_call0_v155 : Ref sig .tc := ⟨.hbm, 237, rfl⟩
abbrev main_call0_call0_v156 : Ref sig .tc := ⟨.hbm, 238, rfl⟩
abbrev main_call0_call0_c_40 : Ref sig .tc := ⟨.hbm, 239, rfl⟩
abbrev main_call0_call0_v157 : Ref sig .tc := ⟨.hbm, 240, rfl⟩
abbrev main_call0_call0_v158 : Ref sig .tc := ⟨.hbm, 241, rfl⟩
abbrev main_call0_call0_c_41 : Ref sig .tc := ⟨.hbm, 242, rfl⟩
abbrev main_call0_call0_v159 : Ref sig .tc := ⟨.hbm, 243, rfl⟩
abbrev main_call0_call0_v160 : Ref sig .tc := ⟨.hbm, 244, rfl⟩
abbrev main_call0_call0_v161 : Ref sig .tc := ⟨.hbm, 245, rfl⟩
abbrev main_call0_call0_v162 : Ref sig .tc := ⟨.hbm, 246, rfl⟩
abbrev main_call0_call0_v163 : Ref sig .tc := ⟨.hbm, 247, rfl⟩
abbrev main_call0_call0_c_42 : Ref sig .tc := ⟨.hbm, 248, rfl⟩
abbrev main_call0_call0_v164 : Ref sig .tc := ⟨.hbm, 249, rfl⟩
abbrev main_call0_call0_v165 : Ref sig .tc := ⟨.hbm, 250, rfl⟩
abbrev main_call0_call0_c_43 : Ref sig .tc := ⟨.hbm, 251, rfl⟩
abbrev main_call0_call0_v166 : Ref sig .tc := ⟨.hbm, 252, rfl⟩
abbrev main_call0_call0_v167 : Ref sig .tc := ⟨.hbm, 253, rfl⟩
abbrev main_call0_call0_v168 : Ref sig .tc := ⟨.hbm, 254, rfl⟩
abbrev main_call0_call0_v169 : Ref sig .tc := ⟨.hbm, 255, rfl⟩
abbrev main_call0_call0_v170 : Ref sig .tc := ⟨.hbm, 256, rfl⟩
abbrev main_call0_v19_0 : Ref sig .tc := ⟨.hbm, 257, rfl⟩
abbrev main_call0_call0_v172 : Ref sig .tc := ⟨.hbm, 258, rfl⟩
abbrev main_call0_call0_v173 : Ref sig .tc := ⟨.hbm, 259, rfl⟩
abbrev main_call0_call0_c_44 : Ref sig .tc := ⟨.hbm, 260, rfl⟩
abbrev main_call0_call0_v174 : Ref sig .tc := ⟨.hbm, 261, rfl⟩
abbrev main_call0_v19_1 : Ref sig .tc := ⟨.hbm, 262, rfl⟩
abbrev main_call0_v20 : Ref sig .tc := ⟨.hbm, 263, rfl⟩
abbrev main_call0_c_2 : Ref sig .tc := ⟨.hbm, 264, rfl⟩
abbrev main_call0_v21 : Ref sig .tc := ⟨.hbm, 265, rfl⟩
abbrev main_call0_v22 : Ref sig .tc := ⟨.hbm, 266, rfl⟩
abbrev main_call0_c_3 : Ref sig .tc := ⟨.hbm, 267, rfl⟩
abbrev main_call0_v23 : Ref sig .tc := ⟨.hbm, 268, rfl⟩
abbrev main_call0_v24 : Ref sig .tc := ⟨.hbm, 269, rfl⟩
abbrev main_call0_v25 : Ref sig .tc := ⟨.hbm, 270, rfl⟩
abbrev main_call0_cst : Ref sig .tc := ⟨.hbm, 271, rfl⟩
abbrev main_call0_v26 : Ref sig .tc := ⟨.hbm, 272, rfl⟩
abbrev main_call0_v27 : Ref sig .tc := ⟨.hbm, 273, rfl⟩
abbrev main_call0_v28 : Ref sig .tc := ⟨.hbm, 274, rfl⟩
abbrev main_call0_v29 : Ref sig .tc := ⟨.hbm, 275, rfl⟩
abbrev main_call0_v30 : Ref sig .tc := ⟨.hbm, 276, rfl⟩
abbrev main_call0_v31 : Ref sig .tc := ⟨.hbm, 277, rfl⟩
abbrev main_call0_v32 : Ref sig .tc := ⟨.hbm, 278, rfl⟩
abbrev main_call0_v33 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_v15 : Ref sig .tc := ⟨.hbm, 283, rfl⟩
abbrev main_v16 : Ref sig .tc := ⟨.hbm, 284, rfl⟩
abbrev main_v17 : Ref sig .tc := ⟨.hbm, 285, rfl⟩
abbrev main_call1_v0 : Ref sig .tc := ⟨.hbm, 286, rfl⟩
abbrev main_call1_cst : Ref sig .tc := ⟨.hbm, 287, rfl⟩
abbrev main_call1_c : Ref sig .tc := ⟨.hbm, 288, rfl⟩
abbrev main_call1_v1_0 : Ref sig .tc := ⟨.hbm, 289, rfl⟩
abbrev main_v18 : Ref sig .tc := ⟨.hbm, 290, rfl⟩

abbrev nD : Nat := 1
abbrev τ : Topo := Topo.v7x

variable {F : FTy → Type} [FloatOps F]
-- ==== Proof.Chunk.lean ====
/- What one chunk of 128 columns computes: the counter-based bits (threefry with 20 mixing rounds), the noise they
   give, the running maximum and the chunk that reached it — stated as plain functions of vectors, and the kernel
   body restated as 25 repetitions of one chunk. -/
module

public import proofs.«01_k».proof.Proof.Gen.KernelIdeal
public import proofs.«01_k».proof.Proof.Gen.KernelIdeal.Skeleton
public import Idealize.ShloMosaic.Lib.Tactic

@[expose] public section

set_option maxRecDepth 65536

noncomputable section

namespace Cert.Sampler

open Cert.KernelIdeal Cert.KernelIdeal.Gen
open Idealize.ShloMosaic Idealize.ShloMosaic.TcCoe Idealize.SL.Sem

variable {F : FTy → Type} [FloatOps F]

/-- One mixing round on the two words: add, rotate the second left by `r` (`r' = 32 - r`), exclusive-or with the sum. -/
def round (r r' : BitVec 32) (p : IVec S64x128 32 × IVec S64x128 32) : IVec S64x128 32 × IVec S64x128 32 :=
  (addi p.1 p.2,
   xori (ori (shli p.2 (broadcast S64x128 r)) (shrui p.2 (broadcast S64x128 r'))) (addi p.1 p.2))

/-- The key words added after every fourth round. -/
def inject (a b : BitVec 32) (p : IVec S64x128 32 × IVec S64x128 32) : IVec S64x128 32 × IVec S64x128 32 :=
  (addi p.1 (broadcast S64x128 a), addi p.2 (broadcast S64x128 b))

/-- Four rounds of the first rotation schedule, -/
def rounds0 (p : IVec S64x128 32 × IVec S64x128 32) : IVec S64x128 32 × IVec S64x128 32 :=
  round 6#32 26#32 (round 26#32 6#32 (round 15#32 17#32 (round 13#32 19#32 p)))

/-- and of the second. -/
def rounds1 (p : IVec S64x128 32 × IVec S64x128 32) : IVec S64x128 32 × IVec S64x128 32 :=
  round 24#32 8#32 (round 16#32 16#32 (round 29#32 3#32 (round 17#32 15#32 p)))

/-- The two words the hash ends with at counter `cnt` (high word 0), under the key `(0, 42)`. -/
def words (cnt : IVec S64x128 32) : IVec S64x128 32 × IVec S64x128 32 :=
  inject 466689008#32 5#32 (rounds0 (inject 42#32 466689012#32 (rounds1 (inject 0#32 45#32 (rounds0
    (inject 466689008#32 2#32 (rounds1 (inject 42#32 466689009#32 (rounds0
      (broadcast S64x128 0#32, addi cnt (broadcast S64x128 42#32)))))))))))

/-- The random bits at counter `cnt`. -/
def bits (cnt : IVec S64x128 32) : IVec S64x128 32 := xori (words cnt).1 (words cnt).2

/-- The noise those bits give: a fraction in `[0, 1)` from the upper 23 bits, then minus log of minus log of it. -/
def noise (b : IVec S64x128 32) : FVec F S64x128 .f32 :=
  let u : FVec F S64x128 .f32 :=
    subf (bitcastToFloat .f32 (ori (shrui b (broadcast S64x128 9#32)) (broadcast S64x128 1065353216#32)))
      (broadcast S64x128 (Scalar.ofBits .f32 0x3F800000#32 : F .f32))
  let z : FVec F S64x128 .f32 := broadcast S64x128 (Scalar.ofBits .f32 0x00000000#32 : F .f32)
  subf z (log (subf z (log u)))

/-- The chunk's logits with the mask added. -/
def masked (x : Vec F S64x1x128 .f32) (mb : Vec F S1x128 .f32) : FVec F S64x128 .f32 :=
  addf (shapeCast S64x128 x shapeCasts_S64x1x128_S64x128)
    (broadcastTo S64x128 (shapeCast S1x128 mb shapeCasts_S1x128_S1x128) broadcasts_S1x128_S64x128)

/-- The chunk's scores: the stored sum, read back, plus the noise. -/
def scores (cnt : IVec S64x128 32) (fl : Vec F S64x128 .f32) : FVec F S64x128 .f32 :=
  addf (shapeCast S64x128 fl shapeCasts_S64x128_S64x128) (noise (bits cnt))

/-- What a chunk carries to the next: the counters, the running maximum per lane, the chunk that reached it first. -/
structure Carry (F : FTy → Type) where
  cnt : IVec S64x128 32
  y : Vec F S64x128 .f32
  k : Vec F S64x128 .i32

/-- The carry after chunk `l` of block `j`. -/
def step (j l : BitVec 32) (s : Carry F) (fl : Vec F S64x128 .f32) : Carry F where
  cnt := addi s.cnt (broadcast S64x128 128#32)
  y := select (cmpf .ogt (scores s.cnt fl) s.y) (scores s.cnt fl) s.y
  k := select (cmpf .ogt (scores s.cnt fl) s.y) (broadcast S64x128 (Scalar.addi (Scalar.muli j 25#32) l)) s.k

/-- The counters of block `j`'s first chunk. -/
def counters (i : grid0.Coords) : IVec S64x128 32 :=
  addi (addi (muli (iota .tc S64x128 32 [0] iota_S64x128_d0_w32) (broadcast S64x128 100000#32))
      (iota .tc S64x128 32 [1] iota_S64x128_d1_w32))
    (broadcast S64x128 (Scalar.muli (BitVec.ofNat 32 (i 0).val) 3200#32))

/-- The ids read off the accumulators after the last block: per row the least column among the lanes at the maximum. -/
def pick (y : FVec F S64x128 .f32) (k : IVec S64x128 32) : IVec S64x1 32 :=
  shapeCast S64x1 (multiReductionI .minsi [1] S64
    (select (cmpf .oeq y (broadcastTo S64x128 (shapeCast S64x1
        (multiReduction .maximumf [1] S64 y 0xFF800000#32 reduces_S64x128_S64 (.inl rfl) rfl) shapeCasts_S64_S64x1) broadcasts_S64x1_S64x128))
      (addi (muli k (broadcast S64x128 128#32)) (iota .tc S64x128 32 [1] iota_S64x128_d1_w32))
      (broadcast S64x128 2147483647#32))
    2147483647#32 reduces_S64x128_S64 rfl) shapeCasts_S64_S64x1

/-! ## The body as 25 chunks -/

section
variable (i : grid0.Coords)
  (arg1 : Memref sig .tc .vmem S64x8x3200 .f32) (arg2 : Memref sig .tc .vmem S1x3200 .f32)
  (arg3 : Memref sig .tc .vmem S64x3200 .f32) (arg4 : Memref sig .tc .vmem S64x1 .i32)
  (arg5 : Memref sig .tc .vmem S64x128 .f32) (arg6 : Memref sig .tc .vmem S64x128 .i32)

/-- Chunk `l`: load the logits and the mask, store their sum, read it back, go on with the next carry. -/
def chunk (l : Fin 25) (s : Carry F) : Prog (TpuEff nD τ sig (Elt F) Λ₀ .tc) (Carry F) := do
  let x : Vec F S64x1x128 .f32 ← Prog.lift (.load arg1 (Rect.unit (s := S64x8x3200) (k0_off1 (BitVec.ofNat 32 l.val)) S64x1x128.size (k0_off1_inb l)).toLoadRect (View.loadsAt_vmem h_S64x1x128))
  let mb : Vec F S1x128 .f32 ← Prog.lift (.load arg2 (Rect.unit (s := S1x3200) (k0_off2 (BitVec.ofNat 32 l.val)) S1x128.size (k0_off2_inb l)).toLoadRect (View.loadsAt_vmem h_S1x128))
  let _d : Vec F S64x128 .f32 ← Prog.lift (.load arg3 (Rect.unit (s := S64x3200) (k0_off3 (BitVec.ofNat 32 l.val)) S64x128.size (k0_off3_inb l)).toLoadRect (View.loadsAt_vmem h_S64x128))
  Prog.lift (.store arg3 (Rect.unit (s := S64x3200) (k0_off3 (BitVec.ofNat 32 l.val)) S64x128.size (k0_off3_inb l)) (masked x mb) Finset.univ (View.stores_vmem_bits_univ h_S64x128 rfl) (.inl rfl))
  let fl : Vec F S64x128 .f32 ← Prog.lift (.load arg3 (Rect.unit (s := S64x3200) (k0_off3 (BitVec.ofNat 32 l.val)) S64x128.size (k0_off3_inb l)).toLoadRect (View.loadsAt_vmem h_S64x128))
  pure (step (BitVec.ofNat 32 (i 0).val) (BitVec.ofNat 32 l.val) s fl)

/-- The first `n` chunks in order. -/
def chunks : (n : Nat) → n ≤ 25 → Carry F → Prog (TpuEff nD τ sig (Elt F) Λ₀ .tc) (Carry F)
  | 0, _, s => pure s
  | n + 1, h, s => chunks n (Nat.le_of_succ_le h) s >>= fun s' => chunk i arg1 arg2 arg3 ⟨n, h⟩ s'

/-- The accumulators' first values, stored at block 0 only. -/
def reset : Prog (TpuEff nD τ sig (Elt F) Λ₀ .tc) PUnit :=
  if Scalar.cmpi .ne (Scalar.extui (Scalar.cmpi .eq (BitVec.ofNat 32 (i 0).val) 0#32) : BitVec 32) 0#32 = 1#1 then do
    let _ : Vec F S64x128 .f32 ← Prog.lift (.load arg5 (Rect.unit (s := S64x128) ![0, 0] S64x128.size inb_S64x128_S64x128_0_0).toLoadRect (View.loadsAt_vmem h_S64x128))
    Prog.lift (.store arg5 (Rect.unit (s := S64x128) ![0, 0] S64x128.size inb_S64x128_S64x128_0_0) (k0_pay8 (F := F)) Finset.univ (View.stores_vmem_bits_univ h_S64x128 rfl) (.inl rfl))
    let _ : Vec F S64x128 .i32 ← Prog.lift (.load arg6 (Rect.unit (s := S64x128) ![0, 0] S64x128.size inb_S64x128_S64x128_0_0).toLoadRect (View.loadsAt_vmem h_S64x128))
    Prog.lift (.store arg6 (Rect.unit (s := S64x128) ![0, 0] S64x128.size inb_S64x128_S64x128_0_0) k0_pay9 Finset.univ (View.stores_vmem_bits_univ h_S64x128 rfl) (.inl rfl))
    pure ⟨⟩
  else pure ⟨⟩

/-- The ids' store, at the last block only. -/
def finish (s : Carry F) : Prog (TpuEff nD τ sig (Elt F) Λ₀ .tc) PUnit :=
  if k0_cond2 i = 1#1 then do
    let _ : Vec F S64x1 .i32 ← Prog.lift (.load arg4 (Rect.unit (s := S64x1) ![0, 0] S64x1.size inb_S64x1_S64x1_0_0).toLoadRect (View.loadsAt_vmem h_S64x1))
    Prog.lift (.store arg4 (Rect.unit (s := S64x1) ![0, 0] S64x1.size inb_S64x1_S64x1_0_0) (pick s.y s.k) Finset.univ (View.stores_vmem_bits_univ h_S64x1 rfl) (.inl rfl))
    pure ⟨⟩
  else pure ⟨⟩

/-- The accumulators' stores at the end of a block. -/
def save (s : Carry F) : Prog (TpuEff nD τ sig (Elt F) Λ₀ .tc) PUnit := do
  let _ : Vec F S64x128 .f32 ← Prog.lift (.load arg5 (Rect.unit (s := S64x128) ![0, 0] S64x128.size inb_S64x128_S64x128_0_0).toLoadRect (View.loadsAt_vmem h_S64x128))
  Prog.lift (.store arg5 (Rect.unit (s := S64x128) ![0, 0] S64x128.size inb_S64x128_S64x128_0_0) (shapeCast S64x128 s.y shapeCasts_S64x128_S64x128) Finset.univ (View.stores_vmem_bits_univ h_S64x128 rfl) (.inl rfl))
  let _ : Vec F S64x128 .i32 ← Prog.lift (.load arg6 (Rect.unit (s := S64x128) ![0, 0] S64x128.size inb_S64x128_S64x128_0_0).toLoadRect (View.loadsAt_vmem h_S64x128))
  Prog.lift (.store arg6 (Rect.unit (s := S64x128) ![0, 0] S64x128.size inb_S64x128_S64x128_0_0) (shapeCast S64x128 s.k shapeCasts_S64x128_S64x128) Finset.univ (View.stores_vmem_bits_univ h_S64x128 rfl) (.inl rfl))

/-- The whole body: reset at block 0, read the accumulators, 25 chunks, save them, the ids at the last block. -/
def looped : Prog (TpuEff nD τ sig (Elt F) Λ₀ .tc) PUnit := do
  reset i arg5 arg6
  let y : Vec F S64x128 .f32 ← Prog.lift (.load arg5 (Rect.unit (s := S64x128) ![0, 0] S64x128.size inb_S64x128_S64x128_0_0).toLoadRect (View.loadsAt_vmem h_S64x128))
  let k : Vec F S64x128 .i32 ← Prog.lift (.load arg6 (Rect.unit (s := S64x128) ![0, 0] S64x128.size inb_S64x128_S64x128_0_0).toLoadRect (View.loadsAt_vmem h_S64x128))
  let s ← chunks i arg1 arg2 arg3 25 (Nat.le_refl 25) ⟨counters i, y, k⟩
  save arg5 arg6 s
  finish i arg4 s

/-- The printed body at block 0, -/
theorem body_eq_first (hc : Scalar.cmpi .ne (Scalar.extui (Scalar.cmpi .eq (BitVec.ofNat 32 (i 0).val) 0#32) : BitVec 32) 0#32 = 1#1) (h1 h2 h3 h4 h5 h6) :
    cc0__compose_kernel (F := F) i arg1 h1 arg2 h2 arg3 h3 arg4 h4 arg5 h5 arg6 h6 = looped i arg1 arg2 arg3 arg4 arg5 arg6 := by
  unfold cc0__compose_kernel k0_part112
  rw [show k0_part1 (F := F) i arg1 h1 arg2 h2 arg3 h3 arg4 h4 arg5 h5 arg6 h6 = _ from dif_pos hc]
  unfold looped
  rw [show reset (F := F) i arg5 arg6 = _ from if_pos hc]
  sl_kernel_rfl

/-- and at a later one, is that program. -/
theorem body_eq_later (hc : ¬ Scalar.cmpi .ne (Scalar.extui (Scalar.cmpi .eq (BitVec.ofNat 32 (i 0).val) 0#32) : BitVec 32) 0#32 = 1#1) (h1 h2 h3 h4 h5 h6) :
    cc0__compose_kernel (F := F) i arg1 h1 arg2 h2 arg3 h3 arg4 h4 arg5 h5 arg6 h6 = looped i arg1 arg2 arg3 arg4 arg5 arg6 := by
  unfold cc0__compose_kernel k0_part112
  rw [show k0_part1 (F := F) i arg1 h1 arg2 h2 arg3 h3 arg4 h4 arg5 h5 arg6 h6 = _ from dif_neg hc]
  unfold looped
  rw [show reset (F := F) i arg5 arg6 = _ from if_neg hc]
  sl_kernel_rfl

/-- The printed body is that program. -/
theorem body_eq (h1 h2 h3 h4 h5 h6) :
    cc0__compose_kernel (F := F) i arg1 h1 arg2 h2 arg3 h3 arg4 h4 arg5 h5 arg6 h6 = looped i arg1 arg2 arg3 arg4 arg5 arg6 := by
  by_cases hc : Scalar.cmpi .ne (Scalar.extui (Scalar.cmpi .eq (BitVec.ofNat 32 (i 0).val) 0#32) : BitVec 32) 0#32 = 1#1
  · exact body_eq_first i arg1 arg2 arg3 arg4 arg5 arg6 hc h1 h2 h3 h4 h5 h6
  · exact body_eq_later i arg1 arg2 arg3 arg4 arg5 arg6 hc h1 h2 h3 h4 h5 h6
end

end Cert.Sampler
end
-- ==== Proof.Body.lean ====
/- What one grid point's body does to its buffers: the block of sums, the carry after each chunk, the two accumulators
   at the end and the ids at the last point — for any float semantics. -/
module

public import proofs.«01_k».proof.Proof.Chunk
public import proofs.«01_k».proof.Proof.Gen.KernelIdeal.Frame
public import Idealize.ShloMosaic.Lib.PointwiseCore
public import Idealize.ShloMosaic.Lib.Writes

@[expose] public section

set_option maxRecDepth 65536

noncomputable section

namespace Cert.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's variants: none. -/
abbrev 𝒱₀ : Variants := Variants.none

/-! ## The block of sums and its tiles -/

/-- The block the body leaves in the result's window: the last position's logits plus the mask, column by column. -/
def sums (X1 : Vec F S64x8x3200 .f32) (X2 : Vec F S1x3200 .f32) : Vec F S64x3200 .f32 :=
  fun y => FloatOps.addf (X1 (ix3 (y 0) 7 (y 1))) (X2 (ix2 0 (y 1)))

/-- Chunk `l`'s columns of the block. -/
abbrev cols (l : Fin 25) : Rect S64x3200 := Rect.unit (s := S64x3200) (k0_off3 (BitVec.ofNat 32 l.val)) S64x128.size (k0_off3_inb l)

/-- Chunk `l`'s tile of a block. -/
def tile (G : Vec F S64x3200 .f32) (l : Fin 25) : Vec F S64x128 .f32 := fun x => G ((cols l).emb x)

theorem off1_eq (l : Fin 25) : k0_off1 (BitVec.ofNat 32 l.val) = ![0, 7, 128 * l.val] := by revert l; decide
theorem off2_eq (l : Fin 25) : k0_off2 (BitVec.ofNat 32 l.val) = ![0, 128 * l.val] := by revert l; decide
theorem off3_eq (l : Fin 25) : k0_off3 (BitVec.ofNat 32 l.val) = ![0, 128 * l.val] := by revert l; decide

/-- The chunk's own sum is its tile of the block's. -/
theorem masked_eq (X1 : Vec F S64x8x3200 .f32) (X2 : Vec F S1x3200 .f32) (l : Fin 25) :
    masked (F := F) (fun x => X1 ((Rect.unit (s := S64x8x3200) (k0_off1 (BitVec.ofNat 32 l.val)) S64x1x128.size (k0_off1_inb l)).emb x))
      (fun x => X2 ((Rect.unit (s := S1x3200) (k0_off2 (BitVec.ofNat 32 l.val)) S1x128.size (k0_off2_inb l)).emb x)) = tile (sums X1 X2) l := by
  funext x
  idx_vars x
  pointwise [masked, tile, sums]
  congr 1
  · congr 1
    funext a
    apply Fin.ext
    have := off1_eq l
    have := off3_eq l
    fin_cases a <;> simp_all [Rect.emb_apply]
  · congr 1
    funext a
    apply Fin.ext
    have := off2_eq l
    have := off3_eq l
    fin_cases a <;> simp_all [Rect.emb_apply]

/-! ## The chunks -/

section
variable (c : Dev nD) (E : Set ℕ) (i : grid0.Coords)
  (arg1 : Memref sig .tc .vmem S64x8x3200 .f32) (arg2 : Memref sig .tc .vmem S1x3200 .f32)
  (arg3 : Memref sig .tc .vmem S64x3200 .f32) (arg4 : Memref sig .tc .vmem S64x1 .i32)
  (X1 : Vec F S64x8x3200 .f32) (X2 : Vec F S1x3200 .f32)

/-- The carry after the first `n` chunks of a block of sums `G`. -/
def carry (G : Vec F S64x3200 .f32) (s : Carry F) : (n : Nat) → n ≤ 25 → Carry F
  | 0, _ => s
  | n + 1, h => step (BitVec.ofNat 32 (i 0).val) (BitVec.ofNat 32 n) (carry G s n (Nat.le_of_succ_le h)) (tile G ⟨n, h⟩)

/-- The first `n` chunks' stores, the last first. -/
def pieces (G : Vec F S64x3200 .f32) : (n : Nat) → n ≤ 25 → List (View.Piece (Elt F) S64x3200 .f32)
  | 0, _ => []
  | n + 1, h => ⟨cols ⟨n, h⟩, tile G ⟨n, h⟩⟩ :: pieces G n (Nat.le_of_succ_le h)

theorem pieces_agree (G : Vec F S64x3200 .f32) : ∀ (n : Nat) (h : n ≤ 25), ∀ p ∈ pieces G n h, ∀ x : p.1.shape.Idx, p.2 x = G (p.1.emb x)
  | 0, _, p, hp => absurd hp List.not_mem_nil
  | n + 1, h, p, hp => by
    rcases List.mem_cons.mp hp with rfl | hp
    · intro x; rfl
    · exact pieces_agree G n _ p hp

theorem cols_mem (G : Vec F S64x3200 .f32) (l : Nat) (hl : l < 25) : ∀ (n : Nat) (h : n ≤ 25), l < n → (⟨cols ⟨l, hl⟩, tile G ⟨l, hl⟩⟩ : View.Piece (Elt F) S64x3200 .f32) ∈ pieces G n h
  | 0, _, hn => absurd hn (Nat.not_lt_zero l)
  | n + 1, h, hn => by
    by_cases e : l = n
    · subst e; exact List.mem_cons_self
    · exact List.mem_cons_of_mem _ (cols_mem G l hl n _ (by omega))

/-- After all 25 the block is `G`, whatever it held. -/
theorem read_pieces {sp : Space} (v : View sig .tc sp S64x3200 .f32) (f : v.ty.Contents (Elt F)) (G : Vec F S64x3200 .f32) :
    v.read (Elt F) (v.writes (Elt F) f (pieces G 25 (Nat.le_refl 25))) = G := by
  funext y
  refine View.read_writes_apply_of_pieces v f G _ (pieces_agree G 25 _) y ?_
  have hy : (y 1).val < 3200 := (y 1).isLt
  have hy0 : (y 0).val < 64 := (y 0).isLt
  refine ⟨_, cols_mem G ((y 1).val / 128) (by omega) 25 (Nat.le_refl 25) (by omega), ?_⟩
  have := off3_eq ⟨(y 1).val / 128, by omega⟩
  show y ∈ (cols _).set
  rw [Rect.mem_set_unit]
  intro a
  rw [this]
  fin_cases a
  · exact ⟨Nat.zero_le _, by simpa using hy0⟩
  · constructor
    · show 128 * ((y 1).val / 128) ≤ (y 1).val; omega
    · show (y 1).val < 128 * ((y 1).val / 128) + 128; omega

/-- One chunk, holding the two inputs' blocks and the result's buffer at some stores: it stores its tile of the sums and
    returns the next carry. -/
theorem chunk_wp (l : Fin 25) (s : Carry F) (f1 : Buf (Elt F) (arg1.view.loc (c : Thread nD τ))) (f2 : Buf (Elt F) (arg2.view.loc (c : Thread nD τ)))
    (f3 : Buf (Elt F) (arg3.view.loc (c : Thread nD τ))) (L : List (View.Piece (Elt F) S64x3200 .f32))
    (h1 : arg1.view.read (Elt F) f1 = X1) (h2 : arg2.view.read (Elt F) f2 = X2) (Q : Carry F → sProp 𝕄) :
    iprop(((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} arg3.view.writes (Elt F) f3 L))
          ∗ (((arg1.view.loc (c : Thread nD τ) ↦[arg1.view.set]{fullShare} f1) ∗ (arg2.view.loc (c : Thread nD τ) ↦[arg2.view.set]{fullShare} f2)
              ∗ (arg3.view.loc (c : Thread nD τ) ↦[arg3.view.set]{fullShare}
                  arg3.view.writes (Elt F) f3 ((⟨cols l, tile (sums X1 X2) l⟩ : View.Piece (Elt F) S64x3200 .f32) :: L)))
            -∗ Q (step (BitVec.ofNat 32 (i 0).val) (BitVec.ofNat 32 l.val) s (tile (sums X1 X2) l))))
      ⊢ wp frame (wpE (defs₀ (F := F)) 𝒱₀ c none) E (chunk i arg1 arg2 arg3 l s) Q := by
  have e : masked (F := F) (arg1.view.readAt (Elt F) (Rect.unit (s := S64x8x3200) (k0_off1 (BitVec.ofNat 32 l.val)) S64x1x128.size (k0_off1_inb l)).toLoadRect f1)
      (arg2.view.readAt (Elt F) (Rect.unit (s := S1x3200) (k0_off2 (BitVec.ofNat 32 l.val)) S1x128.size (k0_off2_inb l)).toLoadRect f2) = tile (sums X1 X2) l := by
    rw [← masked_eq, ← h1, ← h2]; rfl
  have e' : ∀ w, arg3.view.readAt (Elt F) (cols l).toLoadRect (arg3.view.writes (Elt F) f3 ((⟨cols l, w⟩ : View.Piece (Elt F) S64x3200 .f32) :: L)) = w := by
    intro w; funext x
    exact View.read_writes_cons_emb arg3.view f3 (cols l) w L x
  unfold chunk
  simp only [Prog.lift, Prog.bind_op, Prog.bind_ret]
  iintro ⟨⟨H1, H2, H3⟩, Hk⟩
  sl_steps
  rw [e]
  have hq : Q (step (BitVec.ofNat 32 (i 0).val) (BitVec.ofNat 32 l.val) s (tile (sums X1 X2) l))
      ⊢ Q (step (BitVec.ofNat 32 (i 0).val) (BitVec.ofNat 32 l.val) s (arg3.view.readAt (Elt F) (cols l).toLoadRect
          (arg3.view.writes (Elt F) f3 ((⟨cols l, tile (sums X1 X2) l⟩ : View.Piece (Elt F) S64x3200 .f32) :: L)))) := by
    rw [e']
  iapply hq
  iapply Hk
  isplitl [H1]; · iexact H1
  isplitl [H2]; · iexact H2
  iexact H3

/-- The first `n` chunks. -/
theorem chunks_wp (s : Carry F) (f1 : Buf (Elt F) (arg1.view.loc (c : Thread nD τ))) (f2 : Buf (Elt F) (arg2.view.loc (c : Thread nD τ)))
    (f3 : Buf (Elt F) (arg3.view.loc (c : Thread nD τ)))
    (h1 : arg1.view.read (Elt F) f1 = X1) (h2 : arg2.view.read (Elt F) f2 = X2) : ∀ (n : Nat) (h : n ≤ 25) (Q : Carry F → sProp 𝕄),
    iprop(((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3))
          ∗ (((arg1.view.loc (c : Thread nD τ) ↦[arg1.view.set]{fullShare} f1) ∗ (arg2.view.loc (c : Thread nD τ) ↦[arg2.view.set]{fullShare} f2)
              ∗ (arg3.view.loc (c : Thread nD τ) ↦[arg3.view.set]{fullShare} arg3.view.writes (Elt F) f3 (pieces (sums X1 X2) n h)))
            -∗ Q (carry i (sums X1 X2) s n h)))
      ⊢ wp frame (wpE (defs₀ (F := F)) 𝒱₀ c none) E (chunks i arg1 arg2 arg3 n h s) Q
  | 0, h, Q => by
    refine BIBase.Entails.trans ?_ (le_wp_ret _ _ _ _ _)
    rw [show carry i (sums X1 X2) s 0 h = s from rfl]
    iintro ⟨H, Hk⟩
    iapply Hk
    iexact H
  | n + 1, h, Q => by
    refine BIBase.Entails.trans ?_ (Entails.of_eq (wp_bind _ _ _ (chunks i arg1 arg2 arg3 n (Nat.le_of_succ_le h) s) (fun s' => chunk i arg1 arg2 arg3 ⟨n, h⟩ s') Q).symm)
    refine BIBase.Entails.trans ?_ (chunks_wp s f1 f2 f3 h1 h2 n (Nat.le_of_succ_le h) _)
    iintro ⟨H, Hk⟩
    isplitl [H]
    · iexact H
    iintro H
    iapply (chunk_wp c E i arg1 arg2 arg3 X1 X2 ⟨n, h⟩ (carry i (sums X1 X2) s n (Nat.le_of_succ_le h)) f1 f2 f3 (pieces (sums X1 X2) n (Nat.le_of_succ_le h)) h1 h2 Q)
    isplitl [H]
    · iexact H
    iexact Hk

/-! ## The whole body -/

/-- A load of a whole buffer reads what it holds; -/
theorem readAt_all {s : Shape} {e : EltTy} (v : View sig .tc .vmem s e) {off : Fin s.rank → Nat} (h : off = fun _ => 0)
    (inb : ∀ a, off a + s.size a ≤ s.size a) (f : v.ty.Contents (Elt F)) :
    v.readAt (Elt F) (Rect.unit off s.size inb).toLoadRect f = v.read (Elt F) f := by
  subst h
  funext x
  rw [View.readAt_apply]
  congr 1
  funext a
  apply Fin.ext
  show 0 + 1 * (x a).val = (x a).val
  omega

/-- a store of one leaves the payload. -/
theorem read_writes_all {s : Shape} {e : EltTy} (v : View sig .tc .vmem s e) {off : Fin s.rank → Nat} (h : off = fun _ => 0)
    (inb : ∀ a, off a + s.size a ≤ s.size a) (f : v.ty.Contents (Elt F)) (w : s.Idx → Elt F e) (L : List (View.Piece (Elt F) s e)) :
    v.read (Elt F) (v.writes (Elt F) f ((⟨Rect.unit off s.size inb, w⟩ : View.Piece (Elt F) s e) :: L)) = w := by
  subst h
  funext y
  have := View.read_writes_cons_emb v f (Rect.unit (fun _ => 0) s.size inb) w L y
  rw [show (Rect.unit (fun _ => 0) s.size inb).emb y = y from funext fun a => Fin.ext (by show 0 + 1 * (y a).val = (y a).val; omega)] at this
  exact this

theorem zero2 : (![0, 0] : Fin 2 → Nat) = fun _ => 0 := funext fun a => by fin_cases a <;> rfl

/-- The condition the accumulators are reset under: block 0. -/
abbrev isFirst : Prop := Scalar.cmpi .ne (Scalar.extui (Scalar.cmpi .eq (BitVec.ofNat 32 (i 0).val) 0#32) : BitVec 32) 0#32 = 1#1

variable (arg5 : Memref sig .tc .vmem S64x128 .f32) (arg6 : Memref sig .tc .vmem S64x128 .i32)

theorem reset_wp (y : Vec F S64x128 .f32) (k : Vec F S64x128 .i32) (Q : PUnit → sProp 𝕄) :
    iprop((owns (c : Thread nD τ) arg5 fullShare y ∗ owns (c : Thread nD τ) arg6 fullShare k)
        ∗ ((owns (c : Thread nD τ) arg5 fullShare (if isFirst i then (k0_pay8 (F := F) : Vec F S64x128 .f32) else y)
              ∗ owns (c : Thread nD τ) arg6 fullShare (if isFirst i then (k0_pay9 : Vec F S64x128 .i32) else k)) -∗ Q ⟨⟩))
      ⊢ wp frame (wpE (defs₀ (F := F)) 𝒱₀ c none) E (reset i arg5 arg6) Q := by
  unfold reset
  by_cases hc : isFirst i
  · rw [if_pos hc, if_pos hc, if_pos hc]
    unfold owns
    simp only [Prog.lift, Prog.bind_op, Prog.bind_ret]
    iintro ⟨⟨⟨%f5, %h5, H5⟩, ⟨%f6, %h6, H6⟩⟩, Hk⟩
    sl_steps
    iapply Hk
    isplitl [H5]
    · iexists _; isplitr
      rotate_left
      · iexact H5
      · ipureintro; exact read_writes_all arg5.view zero2 inb_S64x128_S64x128_0_0 f5 _ []
    · iexists _; isplitr
      rotate_left
      · iexact H6
      · ipureintro; exact read_writes_all arg6.view zero2 inb_S64x128_S64x128_0_0 f6 _ []
  · rw [if_neg hc, if_neg hc, if_neg hc]
    refine BIBase.Entails.trans ?_ (le_wp_ret _ _ _ _ _)
    iintro ⟨H, Hk⟩
    iapply Hk
    iexact H

theorem save_wp (y : Vec F S64x128 .f32) (k : Vec F S64x128 .i32) (s : Carry F) (Q : PUnit → sProp 𝕄) :
    iprop((owns (c : Thread nD τ) arg5 fullShare y ∗ owns (c : Thread nD τ) arg6 fullShare k)
        ∗ ((owns (c : Thread nD τ) arg5 fullShare s.y ∗ owns (c : Thread nD τ) arg6 fullShare s.k) -∗ Q ⟨⟩))
      ⊢ wp frame (wpE (defs₀ (F := F)) 𝒱₀ c none) E (save arg5 arg6 s) Q := by
  unfold save owns
  rw [shapeCast_self, shapeCast_self]
  simp only [Prog.lift, Prog.bind_op, Prog.bind_ret]
  iintro ⟨⟨⟨%f5, %h5, H5⟩, ⟨%f6, %h6, H6⟩⟩, Hk⟩
  sl_steps
  iapply Hk
  isplitl [H5]
  · iexists _; isplitr
    rotate_left
    · iexact H5
    · ipureintro; exact read_writes_all arg5.view zero2 inb_S64x128_S64x128_0_0 f5 _ []
  · iexists _; isplitr
    rotate_left
    · iexact H6
    · ipureintro; exact read_writes_all arg6.view zero2 inb_S64x128_S64x128_0_0 f6 _ []

theorem finish_wp (X4 : Vec F S64x1 .i32) (s : Carry F) (Q : PUnit → sProp 𝕄) :
    iprop(owns (c : Thread nD τ) arg4 fullShare X4
        ∗ (owns (c : Thread nD τ) arg4 fullShare (if k0_cond2 i = 1#1 then (pick s.y s.k : Vec F S64x1 .i32) else X4) -∗ Q ⟨⟩))
      ⊢ wp frame (wpE (defs₀ (F := F)) 𝒱₀ c none) E (finish i arg4 s) Q := by
  unfold finish
  by_cases hc : k0_cond2 i = 1#1
  · rw [if_pos hc, if_pos hc]
    unfold owns
    simp only [Prog.lift, Prog.bind_op, Prog.bind_ret]
    iintro ⟨⟨%f4, %h4, H4⟩, Hk⟩
    sl_steps
    iapply Hk
    iexists _; isplitr
    rotate_left
    · iexact H4
    · ipureintro; exact read_writes_all arg4.view zero2 inb_S64x1_S64x1_0_0 f4 _ []
  · rw [if_neg hc, if_neg hc]
    refine BIBase.Entails.trans ?_ (le_wp_ret _ _ _ _ _)
    iintro ⟨H, Hk⟩
    iapply Hk
    iexact H

/-- What one block makes of the accumulators it finds. -/
def after (G : Vec F S64x3200 .f32) (y : Vec F S64x128 .f32) (k : Vec F S64x128 .i32) : Carry F :=
  carry i G ⟨counters i, if isFirst i then (k0_pay8 (F := F) : Vec F S64x128 .f32) else y, if isFirst i then (k0_pay9 : Vec F S64x128 .i32) else k⟩ 25 (Nat.le_refl 25)

attribute [local irreducible] chunks carry pieces save finish reset in
/-- The body's triple: the block of sums stored, the accumulators advanced, the ids written at the last block. -/
theorem looped_wp (X3 : Vec F S64x3200 .f32) (X4 : Vec F S64x1 .i32) (y : Vec F S64x128 .f32) (k : Vec F S64x128 .i32) (Q : PUnit → sProp 𝕄) :
    iprop((owns (c : Thread nD τ) arg1 fullShare X1 ∗ owns (c : Thread nD τ) arg2 fullShare X2 ∗ owns (c : Thread nD τ) arg3 fullShare X3
          ∗ owns (c : Thread nD τ) arg4 fullShare X4 ∗ owns (c : Thread nD τ) arg5 fullShare y ∗ owns (c : Thread nD τ) arg6 fullShare k)
        ∗ ((owns (c : Thread nD τ) arg1 fullShare X1 ∗ owns (c : Thread nD τ) arg2 fullShare X2
            ∗ owns (c : Thread nD τ) arg3 fullShare (sums X1 X2)
            ∗ owns (c : Thread nD τ) arg4 fullShare
                (if k0_cond2 i = 1#1 then (pick (after i (sums X1 X2) y k).y (after i (sums X1 X2) y k).k : Vec F S64x1 .i32) else X4)
            ∗ owns (c : Thread nD τ) arg5 fullShare (after i (sums X1 X2) y k).y
            ∗ owns (c : Thread nD τ) arg6 fullShare (after i (sums X1 X2) y k).k) -∗ Q ⟨⟩))
      ⊢ wp frame (wpE (defs₀ (F := F)) 𝒱₀ c none) E (looped i arg1 arg2 arg3 arg4 arg5 arg6) Q := by
  unfold looped
  rw [wp_bind]
  iintro ⟨⟨H1, H2, H3, H4, H5, H6⟩, Hk⟩
  iapply (reset_wp c E i arg5 arg6 y k)
  isplitl [H5 H6]
  · isplitl [H5]
    · iexact H5
    · iexact H6
  unfold owns
  iintro ⟨⟨%f5, %h5, H5⟩, ⟨%f6, %h6, H6⟩⟩
  icases H1 with ⟨%f1, %h1, H1⟩
  icases H2 with ⟨%f2, %h2, H2⟩
  icases H3 with ⟨%f3, %h3, H3⟩
  simp only [Prog.lift, Prog.bind_op, Prog.bind_ret]
  sl_step
  sl_step
  have hy := readAt_all arg5.view zero2 inb_S64x128_S64x128_0_0 f5
  have hk := readAt_all arg6.view zero2 inb_S64x128_S64x128_0_0 f6
  rw [h5] at hy
  rw [h6] at hk
  rw [hy, hk, wp_bind]
  iapply (chunks_wp c E i arg1 arg2 arg3 X1 X2 _ f1 f2 f3 h1 h2 25 (Nat.le_refl 25) _)
  isplitl [H1 H2 H3]
  · isplitl [H1]; · iexact H1
    isplitl [H2]; · iexact H2
    iexact H3
  iintro ⟨H1, H2, H3⟩
  rw [wp_bind]
  iapply (save_wp c E arg5 arg6 (if isFirst i then (k0_pay8 (F := F) : Vec F S64x128 .f32) else y) (if isFirst i then (k0_pay9 : Vec F S64x128 .i32) else k) _ _)
  unfold owns
  isplitl [H5 H6]
  · isplitl [H5]
    · iexists f5; isplitr; · ipureintro; exact h5
      iexact H5
    · iexists f6; isplitr; · ipureintro; exact h6
      iexact H6
  iintro ⟨H5, H6⟩
  iapply (finish_wp c E i arg4 X4 _ _)
  unfold owns
  isplitl [H4]
  · iexact H4
  iintro H4
  iapply Hk
  isplitl [H1]
  · iexists f1; isplitr; · ipureintro; exact h1
    iexact H1
  isplitl [H2]
  · iexists f2; isplitr; · ipureintro; exact h2
    iexact H2
  isplitl [H3]
  · iexists _; isplitr
    rotate_left
    · iexact H3
    · ipureintro; exact read_pieces arg3.view f3 _
  isplitl [H4]; · iexact H4
  isplitl [H5]; · iexact H5
  iexact H6

end

end Cert.Sampler
end
-- ==== Proof.Transport.lean ====
module

public import proofs.«01_k».proof.Defs
public import proofs.«01_k».proof.Proof.Gen.Kernel
public import proofs.«01_k».proof.Proof.Gen.KernelIdeal
public import Idealize.ShloMosaic.Lib.Tactic

@[expose] public section

noncomputable section

namespace Cert.Frames

open Idealize.ShloMosaic Idealize.ShloMosaic.TcCoe Idealize.SL.Sem

/-- The frame statement of the idealized program's text, read at any float values. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- What the statement about the kernel's own program says, without its (vacuous) precondition. -/
def KernelFrame : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

/-- The two programs are one text: their frame statements at the bit-exact values are the same proposition. -/
theorem kernelFrame_eq : KernelFrame = FrameAt Bits := by
  sl_kernel_rfl

end Cert.Frames
end
-- ==== Proof.Frame.lean ====
/- The kernel's frame, for any float semantics: from any arguments it runs to the end, leaves the arguments as they were,
   and every semaphore counter is at zero again. Nothing is said here of the results. -/
module

public import proofs.«01_k».proof.Proof.Body
public import proofs.«01_k».proof.Proof.Transport

@[expose] public section

set_option maxRecDepth 65536

noncomputable section

namespace Cert.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf ΦA)

variable {F : FTy → Type} [FloatOps F]

local notation "𝕄" => MT nD τ sig Unit (Elt F) ℕ (UR sig nD τ) ℕ

variable (m : (ℓ : Loc nD τ sig) → Buf (Elt F) ℓ)

namespace FrameRun

/-- The frame's proof data: the two inputs' blocks; the results' windows are not described. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => fun _ => Scalar.ofBits .f32 0#32
    | ⟨3, _⟩ => fun _ => 0#32
  Φ _ := ΦA spec0 c
  q _ := fullShare
  owed _ := 0

/-- The results' windows, of which nothing is said. -/
def fgt : Fin 4 → Bool := fun w => 2 ≤ w.val

theorem before_0 (c : Dev nD) (t : Fin cfg0.N) (d) :
    (dats m 0 c).before (0 : Fin 4) t d = win0_0.fill (grid0.coords t) d (iblk m c 0 t) := by
  unfold Dat.before; rw [if_pos (fetch0_0 t)]; rfl
theorem before_1 (c : Dev nD) (t : Fin cfg0.N) (d) : (dats m 0 c).before (1 : Fin 4) t d = iblk m c 1 t :=
  before0_1_of m (dats m 0 c) rfl (fun _ => rfl) t d

theorem body (c : Dev nD) : BodyObligationLoose (dats m 0 c) defs₀ 𝒱₀ () Set.univ fgt := fun t => by
  rw [bigSep_W0, bigSep_W0]
  simp only [before_0, before_1]
  change iprop(ΦA spec0 c ∗ _ ∗ (∃ d, owns (c : Thread nD τ) (st0_0 t) fullShare (win0_0.fill (grid0.coords t) d (iblk m c 0 t)))
      ∗ (∃ d : S1x3200.Idx → Elt F .f32, owns (c : Thread nD τ) (st0_1 t) fullShare (iblk m c 1 t))
      ∗ (∃ X, owns (c : Thread nD τ) (st0_2 t) fullShare X) ∗ (∃ X, owns (c : Thread nD τ) (st0_3 t) fullShare X))
    ⊢ wp frame (wpE (defs₀ (F := F)) 𝒱₀ c none) Set.univ (bodyAt0 t) fun _ =>
      iprop(ΦA spec0 c ∗ _ ∗ (∃ d, owns (c : Thread nD τ) (st0_0 t) fullShare (win0_0.fill (grid0.coords t) d (win0_0.cut (grid0.coords t) (win0_0.fill (grid0.coords t) (fun _ => Scalar.ofBits .f32 0#32) (iblk m c 0 t)))))
      ∗ (owns (c : Thread nD τ) (st0_1 t) fullShare (iblk m c 1 t))
      ∗ (∃ X, owns (c : Thread nD τ) (st0_2 t) fullShare X) ∗ (∃ X, owns (c : Thread nD τ) (st0_3 t) fullShare X))
  unfold bodyAt0
  rw [body_eq]
  unfold ΦA
  rw [scopedRest0_eq]
  iintro ⟨⟨⟨⟨%y, Hy⟩, ⟨%k, Hk⟩⟩, Hr⟩, Ho, ⟨%d0, H0⟩, ⟨%d1, H1⟩, ⟨%X2, H2⟩, ⟨%X3, H3⟩⟩
  iapply (looped_wp c Set.univ (grid0.coords t) (st0_0 t) (st0_1 t) (st0_2 t) (st0_3 t) (win0_0.fill (grid0.coords t) d0 (iblk m c 0 t)) (iblk m c 1 t)
    (Memref.whole cc0_scratch0) (Memref.whole cc0_scratch1) X2 X3 y k _)
  simp only [owns_whole_eq]
  isplitl [H0 H1 H2 H3 Hy Hk]
  · isplitl [H0]; · iexact H0
    isplitl [H1]; · iexact H1
    isplitl [H2]; · iexact H2
    isplitl [H3]; · iexact H3
    isplitl [Hy]
    · iexists y; isplitr; · ipureintro; rfl
      iexact Hy
    · iexists k; isplitr; · ipureintro; rfl
      iexact Hk
  iintro ⟨H0, H1, H2, H3, ⟨%y', %hy', Hy⟩, ⟨%k', %hk', Hk⟩⟩
  isplitl [Hy Hk Hr]
  · isplitl [Hy Hk]
    · isplitl [Hy]
      · iexists y'; iexact Hy
      · iexists k'; iexact Hk
    · iexact Hr
  isplitl [Ho]; · iexact Ho
  isplitl [H0]
  · iexists d0; rw [win0_0.cut_fill]; iexact H0
  isplitl [H1]; · iexact H1
  isplitl [H2]
  · iexists _; iexact H2
  · iexists _; iexact H3

set_option backward.isDefEq.respectTransparency.types false in
/-- The run, from any memory. -/
theorem run (g : Dev nD → PrngReg) : θ_run defs (onTc (τ := τ) (main (F := F))) (s₀ m g)
    (fun r => RDat.FramePostR cfg0 (fun c => (dats m 0 c).toRForget fgt) {main_v3} (fun c b => V0 m c (Proc.devRef .tc b)) r ∧ r.2.sem = fun _ => 0) :=
  Pipeline.θ_run_frame_around_T_forget cfgs (dats m) 0 launch0 defs₀ 𝒱₀ fgt {main_v3} m g main (body m)
    (fun c => (dats m 0 c).share_full fun _ => rfl) (fun _ _ => rfl) (V0 m) [hostOps1] sfx_sub sfx_fresh sfx_keeps
    (by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      by_contra hne
      exact StableHlo.devRef_ne_of_ne (fun e => hne (Finset.mem_singleton.mpr e)) hb)
    (hmain m 𝒱₀) (fun _ _ => rfl) (fun _ _ => rfl) _ (fun _ h => h)

end FrameRun

/-- The frame at any float values. -/
theorem frame_at : Cert.Frames.FrameAt F := fun m g =>
  (θ_run defs _ _).mono (fun r h => ⟨fun c => ⟨
      (h.1.arr_in c 0 rfl).trans (V_main_arg0 m c),
      ((h.1 c).2 main_arg1 (Finset.mem_sdiff.mpr ⟨Pipeline.mem_restRefs_of main_arg1 (by decide) (by decide), by decide⟩)).trans (V_main_arg1 m c)⟩, h.2⟩)
    (FrameRun.run m g)

/-- And of the kernel's own program, bit-exact. -/
theorem frame_kernel : Cert.Frames.KernelFrame := Cert.Frames.kernelFrame_eq ▸ frame_at

end Cert.Sampler
end
-- ==== Proof.RefRun.lean ====
/-
  The reference runs. It is a straight line of host operations, so its run ends at what those operations, one after the
  other, make of the launch contents.
-/
module

public import proofs.«01_k».proof.Proof.Gen.ReferenceIdeal
public import proofs.«01_k».proof.Defs
public import Idealize.ShloMosaic.Lib.Claim
public import Idealize.ShloMosaic.Lib.StableHlo.RunRead
public import Idealize.ShloMosaic.Lib.StableHlo.ReadAt
public import Idealize.ShloMosaic.Lib.Quiescent
public import Idealize.ShloMosaic.Lib.Tactic

@[expose] public section

noncomputable section

namespace Cert.RefRun

open Idealize.ShloMosaic Idealize.ShloMosaic.StableHlo Idealize.SL.Sem
open Cert.ReferenceIdeal

/-- One word for every entry of the array. -/
abbrev Words := Vec Ideal S64x100000 .i32

/-- A word of the key, in every entry. -/
def spread (a : Vec Ideal S_ .i32) : Words := broadcastInDim S64x100000 ![] Facts₀.bcast_S_S64x100000 a

/-- One round: the sum, and the second word rotated left by `r` (right by `r'`), mixed with the sum. -/
def round (r r' : BitVec 32) (p : Words × Words) :
    Words × Words :=
  (addi p.1 p.2, xori (addi p.1 p.2)
    (ori (Host.shli p.2 (spread (constantI S_ 32 r))) (Host.shrui p.2 (spread (constantI S_ 32 r')))))

/-- A key injection. -/
def inject (a b : Vec Ideal S_ .i32) (n : BitVec 32) (p : Words × Words) :
    Words × Words :=
  (addi p.1 (spread a), addi (addi p.2 (spread b)) (spread (constantI S_ 32 n)))

def rounds0 (p : Words × Words) := round 6 26 (round 26 6 (round 15 17 (round 13 19 p)))
def rounds1 (p : Words × Words) := round 24 8 (round 16 16 (round 29 3 (round 17 15 p)))

/-- The third key word. -/
def third (a b : Vec Ideal S_ .i32) : Vec Ideal S_ .i32 := xori (xori a b) (constantI S_ 32 466688986#32)

/-- Twenty rounds with a key injection after every four. -/
def threefry (a b : Vec Ideal S_ .i32) (p : Words × Words) : Words × Words :=
  inject (third a b) a 5 (rounds0 (inject b (third a b) 4 (rounds1 (inject a b 3 (rounds0
    (inject (third a b) a 2 (rounds1 (inject b (third a b) 1 (rounds0
      (addi p.1 (spread a), addi p.2 (spread b)))))))))))

/-- The key: the seed's upper and lower words. -/
def key : Vec Ideal S2 .i32 :=
  concatenate S2 0
    [⟨S1, broadcastInDim S1 ![] Facts₀.bcast_S_S1 (Host.shrui (constantI S_ 32 42#32) (constantI S_ 32 32#32))⟩,
     ⟨S1, broadcastInDim S1 ![] Facts₀.bcast_S_S1 (andi (constantI S_ 32 42#32) (constantI S_ 32 4294967295#32))⟩]
    Facts₀.concatenates_S1_S1_S2_d0

/-- The key's first word. -/
def key0 : Vec Ideal S_ .i32 := shapeCast S_ (extractStridedSlice S1 ![0] key Facts₀.slices_S2_S1_0) Facts₀.shapeCasts_S1_S_

/-- The key's second word. -/
def key1 : Vec Ideal S_ .i32 := shapeCast S_ (extractStridedSlice S1 ![1] key Facts₀.slices_S2_S1_1) Facts₀.shapeCasts_S1_S_

/-- The counter of every entry, its position in row-major order, as a word of 64 bits. -/
def counter : IVec S64x100000 64 :=
  addi (muli (broadcastInDim S64x100000 ![] Facts₀.bcast_S_S64x100000 (constantI S_ 64 100000#64)) (iotaInDim S64x100000 64 0))
    (muli (broadcastInDim S64x100000 ![] Facts₀.bcast_S_S64x100000 (constantI S_ 64 1#64)) (iotaInDim S64x100000 64 1))

/-- The two words of every entry. -/
def words : Words × Words :=
  threefry key0 key1
    (trunci 32 (Host.shrui counter (broadcastInDim S64x100000 ![] Facts₀.bcast_S_S64x100000 (constantI S_ 64 32#64))) Facts₀.natLt_32_64,
     trunci 32 counter Facts₀.natLt_32_64)

/-- A float in every entry. -/
def spreadF (a : FVec Ideal S_ .f32) : FVec Ideal S64x100000 .f32 := broadcastInDim S64x100000 ![] Facts₀.bcast_S_S64x100000 a

/-- A float in every entry, by way of an array of one entry. -/
def spreadF1 (a : FVec Ideal S1x1 .f32) : FVec Ideal S64x100000 .f32 :=
  broadcastInDim S64x100000 ![0, 1] Facts₀.bcast_S1x1_S64x100000_0_1 a

/-- The lower bound of the uniform numbers. -/
def lo : FVec Ideal S1x1 .f32 := broadcastInDim S1x1 ![] Facts₀.bcast_S_S1x1 (constant (F := Ideal) S_ .f32 0x00000000#32)

/-- The upper bound of the uniform numbers. -/
def hi : FVec Ideal S1x1 .f32 := broadcastInDim S1x1 ![] Facts₀.bcast_S_S1x1 (constant (F := Ideal) S_ .f32 0x3F800000#32)

/-- The uniform numbers in [0, 1). -/
def uniform : FVec Ideal S64x100000 .f32 :=
  maximumf (spreadF1 lo)
    (addf
      (mulf
        (subf
          (bitcastToFloat .f32
            (ori (Host.shrui (xori words.1 words.2) (spread (constantI S_ 32 9#32))) (spread (constantI S_ 32 1065353216#32))))
          (spreadF (constant (F := Ideal) S_ .f32 0x3F800000#32)))
        (spreadF1 (subf hi lo)))
      (spreadF1 lo))

/-- The Gumbel noise. -/
def gumbel : FVec Ideal S64x100000 .f32 := Host.negf (Host.log (Host.negf (Host.log uniform)))

/-- The last position's logits plus the mask. -/
def final (x : FVec Ideal S64x8x100000 .f32) (w : FVec Ideal S100000 .f32) : FVec Ideal S64x100000 .f32 :=
  addf
    (shapeCast S64x100000 (extractStridedSlice S64x1x100000 ![0, 7, 0] x Facts₀.slices_S64x8x100000_S64x1x100000_0_7_0)
      Facts₀.shapeCasts_S64x1x100000_S64x100000)
    (broadcastInDim S64x100000 ![0, 1] Facts₀.bcast_S1x100000_S64x100000_0_1
      (broadcastInDim S1x100000 ![1] Facts₀.bcast_S100000_S1x100000_1 w))

/-- The column of every row's largest entry. -/
def argmax (y : FVec Ideal S64x100000 .f32) : Vec Ideal S64 .i32 := fun j =>
  (Host.argReduce reducer_argmax_f32_i32 y (iotaInDim S64x100000 32 1) (constant (F := Ideal) S_ .f32 0xFF800000#32) (constantI S_ 32 0#32)
    Facts₀.reducesTo_S64x100000_S64_d1 Facts₀.h_S_ j).2

/-- The sampled columns. -/
def ids (x : FVec Ideal S64x8x100000 .f32) (w : FVec Ideal S100000 .f32) : Vec Ideal S64 .i32 := argmax (addf (final x w) gumbel)

/-- Two straight lines, one after the other. -/
theorem isSeq_append {nD : Nat} {τ : Topo} {sig : RefSig} {Val : EltTy → Type} {Λ : Labels}
    {p k : Prog (TpuEff nD τ sig Val Λ .tc) PUnit} {ops ops' : List (HloOp τ sig Val)}
    (h : IsSeq p ops) (h' : IsSeq k ops') : IsSeq (p >>= fun _ => k) (ops ++ ops') := by
  unfold IsSeq at h h' ⊢; rw [h, h']; exact (seq_append ops ops').symm

set_option maxRecDepth 100000 in
set_option maxHeartbeats 4000000 in
/-- The reference is a straight line of operations on its own buffers. It leaves its arguments and ends with `ids` and
    `final` of them. -/
theorem line : ∃ ops : List (HloOp τ sig (Elt Ideal)), (∀ d, IsSeq (main (F := Ideal) d) ops) ∧
    (ops.Forall fun op => op.bufs ⊆ tcRefs τ sig) ∧ (∀ op ∈ ops, op.fresh = ∅) ∧
    ∀ V : Valuation τ sig (Elt Ideal),
      after ops V (Proc.devRef .tc main_v4) = final (V (Proc.devRef .tc main_arg0)) (V (Proc.devRef .tc main_arg1)) ∧
      after ops V (Proc.devRef .tc main_v18) = ids (V (Proc.devRef .tc main_arg0)) (V (Proc.devRef .tc main_arg1)) ∧
      after ops V (Proc.devRef .tc main_arg0) = V (Proc.devRef .tc main_arg0) ∧
      after ops V (Proc.devRef .tc main_arg1) = V (Proc.devRef .tc main_arg1) := by
  refine ⟨_, by
    intro d
    unfold main
    iterate 17 apply IsSeq.cons
    apply isSeq_append
    · unfold fn_uniform.body
      iterate 22 apply IsSeq.cons
      apply isSeq_append
      · unfold fn_threefry2x32.body
        apply isSeq_append (by unfold fn_threefry2x32.body_part0; hlo_seq)
        apply isSeq_append (by unfold fn_threefry2x32.body_part1; hlo_seq)
        apply isSeq_append (by unfold fn_threefry2x32.body_part2; hlo_seq)
        unfold fn_threefry2x32.body_part3
        hlo_seq
      · hlo_seq
    · iterate 5 apply IsSeq.cons
      apply isSeq_append
      · unfold fn_argmax.body
        hlo_seq
      · exact IsSeq.nil,
    ?_, ?_, ?_⟩
  · simp
  · intro _ h
    (repeat (cases h with | head => rfl | tail _ h => ?_))
    exact nomatch h
  · refine fun V => ⟨?_, ?_, ?_, ?_⟩
    · sl_kernel_rfl
    · after_reads_simp
      simp -implicitDefEqProofs only [TRef.toBuf, TRef.ofBuf, cast_cast, cast_eq]
      sl_kernel_rfl
    · sl_kernel_rfl
    · sl_kernel_rfl

/-- The reference runs, leaves its arguments, and ends with `final` and `ids` of them. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4)
          = final (m ((c.tc : Thread nD τ).loc main_arg0)) (m ((c.tc : Thread nD τ).loc main_arg1))
      ∧ r.2.mem ((c.tc : Thread nD τ).loc main_v18)
          = ids (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  obtain ⟨ops, hseq, hsub, hfresh, hval⟩ := line
  refine θ_run_mono (run_hlo _ _ hseq (by decide) (by decide) hsub hfresh m g) fun r h c => ?_
  obtain ⟨h4, h18, h0, h1⟩ := hval (launchContents m c)
  exact ⟨(h c main_v4).trans h4, (h c main_v18).trans h18, (h c main_arg0).trans h0, (h c main_arg1).trans h1⟩

/-- The reference's frame: it runs, leaves its arguments, and every counter ends at zero. -/
theorem frame : Cert.quiescent_ReferenceIdeal (hReferenceIdeal := Cert.ReferenceIdeal.Gen.facts) := by
  intro m g _
  exact θ_run_mono (run m g) fun r h =>
    ⟨fun c => (h c).2.2, sem_eq_zero_of_no_sems (by decide) r.2⟩

end Cert.RefRun
-- ==== Proof.Sums.lean ====
/- The sums a grid point stores, over the extended reals: at a column of the vocabulary the last position's logit plus the
   mask, and minus infinity at a column past it, whatever the logits' buffer holds there — the mask's padding is minus
   infinity, and minus infinity plus anything is minus infinity. -/
module

public import proofs.«01_k».proof.Proof.Body
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 65536

noncomputable section

namespace Cert.Sampler

open Cert.KernelIdeal Cert.KernelIdeal.Gen
open Idealize.ShloMosaic Idealize.ShloMosaic.TcCoe Idealize.ShloMosaic.Tactic Idealize.SL.Sem
open Idealize.ShloMosaic.Pipeline (Window)

/-- Row `r`'s sum at column `q`, of logits `x` and mask `w`. -/
def sumAt (x : FVec Ideal S64x8x100000 .f32) (w : FVec Ideal S100000 .f32) (r : Fin 64) (q : ℕ) : EReal :=
  if h : q < 100000 then (x (ix3 r (7 : Fin 8) (⟨q, h⟩ : Fin 100000)) : EReal) + (w (ix1 (⟨q, h⟩ : Fin 100000)) : EReal) else ⊥

/-- Point `t`'s block of sums. -/
def blockSum (x : FVec Ideal S64x8x100000 .f32) (w : FVec Ideal S100000 .f32) (t : ℕ) : FVec Ideal S64x3200 .f32 :=
  fun y => sumAt x w (y 0) (3200 * t + (y 1).val)

variable (m : (ℓ : Loc nD τ sig) → Buf (Elt Ideal) ℓ)

/-- The logits and the mask in a memory. -/
abbrev X (c : Dev nD) : FVec Ideal S64x8x100000 .f32 := m ((c : Thread nD τ).loc main_arg0)
abbrev W (c : Dev nD) : FVec Ideal S100000 .f32 := m ((c : Thread nD τ).loc main_arg1)

/-- The pattern of minus infinity reads as the least extended real. -/
theorem ofBits_negInf : Ideal.ofBits .f32 0xFF800000#32 = ⊥ := by simp [Ideal.ofBits, Ideal.ieee]

theorem index0 : ∀ t : Fin cfg0.N, win0_0.index t = ![0, 0, t.val] := by decide +kernel
theorem index1 : ∀ t : Fin cfg0.N, win0_1.index t = ![0, t.val] := by decide +kernel
theorem index2 : ∀ t : Fin cfg0.N, win0_2.index t = ![0, t.val] := by decide +kernel
theorem coord : ∀ t : Fin cfg0.N, (grid0.coords t 0).val = t.val := by decide +kernel

/-- The padded mask as the region finds it. -/
theorem V_main_v1 (c : Dev nD) (q : Fin 102400) : V m c main_v1 (ix2 (0 : Fin 1) q)
    = if h : q.val < 100000 then W m c (ix1 (⟨q.val, h⟩ : Fin 100000)) else (⊥ : EReal) := by
  unfold V V0
  simp only [hostOps0, hostOps0_1, hostOps0_2, List.flatten_cons, List.flatten_nil, List.append_nil, List.cons_append, List.nil_append]
  after_reads_simp
  simp -implicitDefEqProofs only [StableHlo.TRef.toBuf, StableHlo.TRef.ofBuf, cast_cast, cast_eq]
  pointwise
  refine dite_congr rfl (fun _ => rfl) fun _ => ?_
  exact ofBits_negInf

/-- The mask's block. -/
theorem mask_block (c : Dev nD) (t : Fin cfg0.N) (y : Fin 3200) : iblk m c 1 t (ix2 (0 : Fin 1) y)
    = if h : 3200 * t.val + y.val < 100000 then W m c (ix1 (⟨3200 * t.val + y.val, h⟩ : Fin 100000)) else (⊥ : EReal) := by
  have e := index1 t
  have ht : t.val < 32 := t.isLt
  have hq : 3200 * t.val + y.val < 102400 := by omega
  rw [← V_main_v1 m c ⟨3200 * t.val + y.val, hq⟩]
  blk_ext [iblk, index1 t]

theorem xsize0 : ∀ t : Fin cfg0.N, win0_0.xsize (grid0.coords t) = ![64, 8, if t.val = 31 then 800 else 3200] := by decide +kernel

/-- What the body stores is the block of sums, whatever the buffer of logits held before. -/
theorem sums_eq (c : Dev nD) (t : Fin cfg0.N) (d : S64x8x3200.Idx → EReal) :
    sums (F := Ideal) (win0_0.fill (grid0.coords t) d (iblk m c 0 t)) (iblk m c 1 t) = blockSum (X m c) (W m c) t.val := by
  funext y
  idx_vars y
  have e := xsize0 t
  have ht : t.val < 32 := t.isLt
  change _ + _ = sumAt _ _ _ _
  rw [show iblk m c 1 t (ix2 0 ((ix2 y0 y1 : S64x3200.Idx) 1)) = _ from mask_block m c t y1]
  unfold sumAt
  change _ + _ = if h : 3200 * t.val + y1.val < 100000 then _ else _
  by_cases h : 3200 * t.val + y1.val < 100000
  · rw [dif_pos h, dif_pos h]
    congr 1
    have hm : win0_0.moved (grid0.coords t) (ix3 y0 (7 : Fin 8) y1) = true := by
      rw [win0_0.moved_iff, e]
      intro a
      fin_cases a
      · exact y0.isLt
      · show 7 < 8; decide
      · show y1.val < if t.val = 31 then 800 else 3200
        split <;> omega
    unfold Window.fill
    rw [show ∀ p q, dite (win0_0.moved (grid0.coords t) (ix3 (ix2 y0 y1 0) 7 (ix2 y0 y1 1)) = true) p q = p hm from fun p q => dif_pos hm]
    have hX : X m c = V m c main_arg0 := (V_main_arg0 m c).symm
    rw [hX]
    blk_ext [iblk, index0 t]
  · rw [dif_neg h, dif_neg h]
    exact EReal.add_bot _
end Cert.Sampler
end
-- ==== Proof.Run.lean ====
/- The kernel's run over the extended reals: after `t` blocks the two accumulators hold what folding the first `t` blocks of
   sums makes of them; the sums are written back block by block, the ids once, after the last. -/
module

public import proofs.«01_k».proof.Proof.Sums

@[expose] public section

set_option maxRecDepth 65536

noncomputable section

namespace Cert.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose ΦA)

local notation "𝕄" => MT nD τ sig Unit (Elt Ideal) ℕ (UR sig nD τ) ℕ

/-- The two accumulators' contents: the running maximum per lane and the chunk that reached it. -/
structure Acc where
  y : FVec Ideal S64x128 .f32
  k : Vec Ideal S64x128 .i32

/-- The accumulators after one more block, of sums `G` at coordinates `i`. -/
def Acc.next (i : grid0.Coords) (G : FVec Ideal S64x3200 .f32) (a : Acc) : Acc := ⟨(after i G a.y a.k).y, (after i G a.y a.k).k⟩

/-- Before the first block: nothing is known, since it resets them; named all the same. -/
def Acc.start : Acc := ⟨(k0_pay8 (F := Ideal) : FVec Ideal S64x128 .f32), (k0_pay9 : Vec Ideal S64x128 .i32)⟩

/-- The accumulators after `t` blocks of logits `x` and mask `w`. -/
def accAfter (x : FVec Ideal S64x8x100000 .f32) (w : FVec Ideal S100000 .f32) : (t : ℕ) → t ≤ cfg0.N → Acc
  | 0, _ => Acc.start
  | t + 1, h => (accAfter x w t (Nat.le_of_succ_le h)).next (grid0.coords ⟨t, h⟩) (blockSum x w t)

variable (m : (ℓ : Loc nD τ sig) → Buf (Elt Ideal) ℓ)

namespace ValueRun

/-- The accumulators after `t` blocks, in a memory. -/
abbrev acc (c : Dev nD) (t : Fin (cfg0.N + 1)) : Acc := accAfter (X m c) (W m c) t.val (Nat.le_of_lt_succ t.isLt)

/-- What the accumulators' buffers are held at: after at least one block, exactly. -/
def Held (c : Dev nD) (t : Fin (cfg0.N + 1)) : sProp 𝕄 :=
  iprop(((∃ y : FVec Ideal S64x128 .f32, ((c : Thread nD τ).loc cc0_scratch0 ↦{fullShare} y) ∗ ⌜t.val ≠ 0 → y = (acc m c t).y⌝)
      ∗ (∃ k : Vec Ideal S64x128 .i32, ((c : Thread nD τ).loc cc0_scratch1 ↦{fullShare} k) ∗ ⌜t.val ≠ 0 → k = (acc m c t).k⌝))
    ∗ ∃ r, prngReg c r)

/-- The run's proof data. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => blockSum (X m c) (W m c) t.val
    | ⟨3, _⟩ => pick (acc m c t.succ).y (acc m c t.succ).k
  Φ t := Held m c t
  q _ := fullShare
  owed _ := 0

theorem before_0 (c : Dev nD) (t : Fin cfg0.N) (d) :
    (dats m 0 c).before (0 : Fin 4) t d = win0_0.fill (grid0.coords t) d (iblk m c 0 t) := by
  unfold Dat.before; rw [if_pos (fetch0_0 t)]; rfl
theorem before_1 (c : Dev nD) (t : Fin cfg0.N) (d) : (dats m 0 c).before (1 : Fin 4) t d = iblk m c 1 t :=
  before0_1_of m (dats m 0 c) rfl (fun _ => rfl) t d

theorem isFirst_iff : ∀ t : Fin cfg0.N, isFirst (grid0.coords t) ↔ t.val = 0 := by decide +kernel
theorem cond2_iff : ∀ t : Fin cfg0.N, k0_cond2 (grid0.coords t) = 1#1 ↔ t.val = 31 := by decide +kernel

/-- One block's effect on accumulators held as the invariant says. -/
theorem next_eq (c : Dev nD) (t : Fin cfg0.N) (y : FVec Ideal S64x128 .f32) (k : Vec Ideal S64x128 .i32)
    (hy : t.val ≠ 0 → y = (acc m c t.castSucc).y) (hk : t.val ≠ 0 → k = (acc m c t.castSucc).k) :
    (after (grid0.coords t) (blockSum (X m c) (W m c) t.val) y k).y = (acc m c t.succ).y
      ∧ (after (grid0.coords t) (blockSum (X m c) (W m c) t.val) y k).k = (acc m c t.succ).k := by
  have e : after (F := Ideal) (grid0.coords t) (blockSum (X m c) (W m c) t.val) y k
      = after (F := Ideal) (grid0.coords t) (blockSum (X m c) (W m c) t.val) (acc m c t.castSucc).y (acc m c t.castSucc).k := by
    unfold after
    by_cases h : t.val = 0
    · rw [if_pos ((isFirst_iff t).mpr h), if_pos ((isFirst_iff t).mpr h), if_pos ((isFirst_iff t).mpr h), if_pos ((isFirst_iff t).mpr h)]
    · rw [← hy h, ← hk h]
  rw [e]
  exact ⟨rfl, rfl⟩

/-- The obligation's last conjunct: what the ids' buffer is left at. -/
abbrev IdsLeft (c : Dev nD) (t : Fin cfg0.N) : sProp 𝕄 :=
  match cfg0.idle (3 : Fin 4) (cfg0.grid.coords t) with
  | true =>
    match (cfg0.win (3 : Fin 4)).flush t with
    | false => iprop(∃ d, owns (c : Thread nD τ) (st0_3 t) fullShare ((dats m 0 c).before (3 : Fin 4) t d))
    | true => owns (c : Thread nD τ) (st0_3 t) fullShare ((dats m 0 c).after (3 : Fin 4) t)
  | false => owns (c : Thread nD τ) (st0_3 t) fullShare ((dats m 0 c).after (3 : Fin 4) t)

/-- At the last point the ids' buffer is left at the ids, before it untouched. -/
theorem idsLeft (c : Dev nD) (t : Fin cfg0.N) (d) (Z : Vec Ideal S64x1 .i32) (hZ : Z = (dats m 0 c).after (3 : Fin 4) t) :
    (owns (c : Thread nD τ) (st0_3 t) fullShare (if k0_cond2 (grid0.coords t) = 1#1 then Z else (dats m 0 c).before (3 : Fin 4) t d) : sProp 𝕄) ⊢ IdsLeft m c t := by
  unfold IdsLeft
  by_cases h : t.val = 31
  · have hi : cfg0.idle (3 : Fin 4) (cfg0.grid.coords t) = false := by
      show (!(k0_cond2 (grid0.coords t) == 1#1)) = false
      rw [(cond2_iff t).mpr h]; rfl
    rw [hi, if_pos ((cond2_iff t).mpr h), hZ]
  · have hi : cfg0.idle (3 : Fin 4) (cfg0.grid.coords t) = true := by
      show (!(k0_cond2 (grid0.coords t) == 1#1)) = true
      rw [beq_false_of_ne fun e => h ((cond2_iff t).mp e)]; rfl
    have hf : (cfg0.win (3 : Fin 4)).flush t = false := by
      rw [Bool.eq_false_iff]
      intro e
      have := (flush0_3 t).mp e
      have ht : t.val < 32 := t.isLt
      omega
    rw [hi, hf, if_neg fun e => h ((cond2_iff t).mp e)]
    iintro H
    iexists d
    iexact H

theorem body (c : Dev nD) : BodyObligationLoose (dats m 0 c) defs₀ 𝒱₀ () Set.univ := fun t => by
  rw [bigSep_W0, bigSep_W0]
  simp only [before_0, before_1]
  change iprop(Held m c t.castSucc ∗ _ ∗ (∃ d, owns (c : Thread nD τ) (st0_0 t) fullShare (win0_0.fill (grid0.coords t) d (iblk m c 0 t)))
      ∗ (∃ d : S1x3200.Idx → Elt Ideal .f32, owns (c : Thread nD τ) (st0_1 t) fullShare (iblk m c 1 t))
      ∗ (∃ d, owns (c : Thread nD τ) (st0_2 t) fullShare ((dats m 0 c).before (2 : Fin 4) t d)) ∗ (∃ d, owns (c : Thread nD τ) (st0_3 t) fullShare ((dats m 0 c).before (3 : Fin 4) t d)))
    ⊢ wp frame (wpE (defs₀ (F := Ideal)) 𝒱₀ c none) Set.univ (bodyAt0 t) fun _ =>
      iprop(Held m c t.succ ∗ _ ∗ (∃ d, owns (c : Thread nD τ) (st0_0 t) fullShare (win0_0.fill (grid0.coords t) d (win0_0.cut (grid0.coords t) (win0_0.fill (grid0.coords t) (fun _ => (0 : EReal)) (iblk m c 0 t)))))
      ∗ (owns (c : Thread nD τ) (st0_1 t) fullShare (iblk m c 1 t))
      ∗ (∃ d, owns (c : Thread nD τ) (st0_2 t) fullShare (win0_2.fill (grid0.coords t) d (win0_2.cut (grid0.coords t) (blockSum (X m c) (W m c) t.val))))
      ∗ IdsLeft m c t)
  unfold bodyAt0
  rw [body_eq]
  unfold Held
  iintro ⟨⟨⟨⟨%y, Hy, %hy⟩, ⟨%k, Hk, %hk⟩⟩, Hr⟩, Ho, ⟨%d0, H0⟩, ⟨%d1, H1⟩, ⟨%d2, H2⟩, ⟨%d3, H3⟩⟩
  obtain ⟨ey, ek⟩ := next_eq m c t y k hy hk
  iapply (looped_wp c Set.univ (grid0.coords t) (st0_0 t) (st0_1 t) (st0_2 t) (st0_3 t) (win0_0.fill (grid0.coords t) d0 (iblk m c 0 t)) (iblk m c 1 t)
    (Memref.whole cc0_scratch0) (Memref.whole cc0_scratch1) _ ((dats m 0 c).before (3 : Fin 4) t d3) y k _)
  rw [sums_eq m c t d0, ey, ek]
  simp only [owns_whole_eq]
  isplitl [H0 H1 H2 H3 Hy Hk]
  · isplitl [H0]; · iexact H0
    isplitl [H1]; · iexact H1
    isplitl [H2]; · iexact H2
    isplitl [H3]; · iexact H3
    isplitl [Hy]
    · iexists y; isplitr; · ipureintro; rfl
      iexact Hy
    · iexists k; isplitr; · ipureintro; rfl
      iexact Hk
  iintro ⟨H0, H1, H2, H3, ⟨%y', %hy', Hy⟩, ⟨%k', %hk', Hk⟩⟩
  isplitl [Hy Hk Hr]
  · isplitl [Hy Hk]
    · isplitl [Hy]
      · iexists y'; isplitl [Hy]; · iexact Hy
        ipureintro; intro _; exact hy'
      · iexists k'; isplitl [Hk]; · iexact Hk
        ipureintro; intro _; exact hk'
    · iexact Hr
  isplitl [Ho]; · iexact Ho
  isplitl [H0]
  · iexists d0; rw [win0_0.cut_fill]; iexact H0
  isplitl [H1]; · iexact H1
  isplitl [H2]
  · iexists _; rw [win0_2.fill_cut]; iexact H2
  · iapply (idsLeft m c t d3 _ rfl); iexact H3

set_option backward.isDefEq.respectTransparency.types false in
/-- The run, from any memory. -/
theorem run (g : Dev nD → PrngReg) : θ_run defs (onTc (τ := τ) (main (F := Ideal))) (s₀ m g)
    (Pipeline.FramePost cfgs (dats m) 0 (Pipeline.afterTail₀ cfgs (dats m) 0 (V0 m) [hostOps1])) :=
  Pipeline.θ_run_frame_around_track cfgs (dats m) 0 launch0 defs₀ 𝒱₀ m g main (body m)
    (fun c => (dats m 0 c).share_full fun _ => rfl) (fun _ _ => rfl) (V0 m) [hostOps1] sfx_sub sfx_fresh sfx_keeps
    (hmain m 𝒱₀) (fun _ _ => rfl)
    (fun c => by
      show ΦA spec0 c ⊢ Held m c 0
      unfold ΦA Held
      rw [scopedRest0_eq]
      iintro ⟨⟨⟨%y, Hy⟩, ⟨%k, Hk⟩⟩, Hr⟩
      isplitl [Hy Hk]
      · isplitl [Hy]
        · iexists y; isplitl [Hy]; · iexact Hy
          ipureintro; intro h; exact absurd rfl h
        · iexists k; isplitl [Hk]; · iexact Hk
          ipureintro; intro h; exact absurd rfl h
      · iexact Hr)
    (fun c => by
      show Held m c _ ⊢ ΦA spec0 c
      unfold ΦA Held
      rw [scopedRest0_eq]
      iintro ⟨⟨⟨%y, Hy, -⟩, ⟨%k, Hk, -⟩⟩, Hr⟩
      isplitl [Hy Hk]
      · isplitl [Hy]
        · iexists y; iexact Hy
        · iexists k; iexact Hk
      · iexact Hr)

end ValueRun
end Cert.Sampler
end
-- ==== Proof.Noise.lean ====
/- The noise of one counter word, as a function of that word alone, and the kernel's noise read at an entry. -/
module

public import proofs.«01_k».proof.Proof.Chunk
public import Idealize.ShloMosaic.Lib.Pointwise

@[expose] public section

set_option maxRecDepth 65536

noncomputable section

namespace Cert.Sampler.Word

open Cert.KernelIdeal Cert.KernelIdeal.Gen
open Idealize.ShloMosaic

/-- One mixing round on two words. -/
def round (r r' : BitVec 32) (p : BitVec 32 × BitVec 32) : BitVec 32 × BitVec 32 :=
  (p.1 + p.2, IntOp.ori (IntOp.shli .vector p.2 r) (IntOp.shrui .vector p.2 r') ^^^ (p.1 + p.2))

/-- Two key words added. -/
def inject (a b : BitVec 32) (p : BitVec 32 × BitVec 32) : BitVec 32 × BitVec 32 := (p.1 + a, p.2 + b)

def rounds0 (p : BitVec 32 × BitVec 32) : BitVec 32 × BitVec 32 :=
  round 6#32 26#32 (round 26#32 6#32 (round 15#32 17#32 (round 13#32 19#32 p)))

def rounds1 (p : BitVec 32 × BitVec 32) : BitVec 32 × BitVec 32 :=
  round 24#32 8#32 (round 16#32 16#32 (round 29#32 3#32 (round 17#32 15#32 p)))

/-- The two words the hash ends with at counter `n` under the key `(0, 42)`. -/
def words (n : BitVec 32) : BitVec 32 × BitVec 32 :=
  inject 466689008#32 5#32 (rounds0 (inject 42#32 466689012#32 (rounds1 (inject 0#32 45#32 (rounds0
    (inject 466689008#32 2#32 (rounds1 (inject 42#32 466689009#32 (rounds0 (0#32, n + 42#32))))))))))

/-- The random bits of counter `n`. -/
def bits (n : BitVec 32) : BitVec 32 := (words n).1 ^^^ (words n).2

/-- The float whose upper fraction bits are the upper 23 of `b`, in `[1, 2)`. -/
def fraction (b : BitVec 32) : EReal :=
  Ideal.ofBits .f32 (IntOp.ori (IntOp.shrui .vector b 9#32) 1065353216#32)

/-- The noise of random bits `b`. -/
def noise (b : BitVec 32) : EReal := -Ideal.log (-Ideal.log (fraction b - 1))

/-! ## The kernel's, at an entry -/

/-- A pair of arrays at an entry. -/
def entry {s : Shape} (p : IVec s 32 × IVec s 32) (x : s.Idx) : BitVec 32 × BitVec 32 := (p.1 x, p.2 x)

theorem entry_round (r r' : BitVec 32) (p : IVec S64x128 32 × IVec S64x128 32) (x : S64x128.Idx) :
    entry (Sampler.round r r' p) x = round r r' (entry p x) := rfl

theorem entry_inject (a b : BitVec 32) (p : IVec S64x128 32 × IVec S64x128 32) (x : S64x128.Idx) :
    entry (Sampler.inject a b p) x = inject a b (entry p x) := rfl

theorem entry_words (cnt : IVec S64x128 32) (x : S64x128.Idx) : entry (Sampler.words cnt) x = words (cnt x) := by
  unfold Sampler.words words Sampler.rounds0 Sampler.rounds1 rounds0 rounds1
  simp only [entry_round, entry_inject]
  rfl

theorem bits_apply (cnt : IVec S64x128 32) (x : S64x128.Idx) : Sampler.bits cnt x = bits (cnt x) := by
  show (entry (Sampler.words cnt) x).1 ^^^ (entry (Sampler.words cnt) x).2 = _
  rw [entry_words]
  rfl

theorem noise_apply (b : IVec S64x128 32) (x : S64x128.Idx) : Sampler.noise (F := Ideal) b x = noise (b x) := by
  show (Ideal.ofBits .f32 0x00000000#32 : EReal) - Ideal.log (Ideal.ofBits .f32 0x00000000#32 - Ideal.log (fraction (b x) - Ideal.ofBits .f32 0x3F800000#32)) = _
  rw [Ideal.ofBits_zero_f32, Ideal.ofBits_one_f32, zero_sub, zero_sub]
  rfl

end Cert.Sampler.Word
end
-- ==== Proof.FirstMax.lean ====
/- The first index at which a sequence of extended reals is largest: it is unique; a running maximum that moves only on a
   strictly larger entry stops there; and over a sequence dealt out to lanes it is the least of the lanes' own such indices
   among the lanes that reach the overall maximum. -/
module

public import Mathlib.Data.EReal.Basic

@[expose] public section

namespace Cert.Sampler

/-- `q` is the first index below `N` at which `s` is largest. -/
def IsFirst (s : ℕ → EReal) (N q : ℕ) : Prop := q < N ∧ (∀ n < N, s n ≤ s q) ∧ ∀ n < q, s n < s q

theorem IsFirst.unique {s : ℕ → EReal} {N p q : ℕ} (hp : IsFirst s N p) (hq : IsFirst s N q) : p = q := by
  rcases lt_trichotomy p q with h | h | h
  · exact absurd (hp.2.1 q hq.1) (not_le.mpr (hq.2.2 p h))
  · exact h
  · exact absurd (hq.2.1 p hp.1) (not_le.mpr (hp.2.2 q h))

theorem IsFirst.congr {s s' : ℕ → EReal} {N q : ℕ} (h : IsFirst s N q) (e : ∀ n < N, s n = s' n) : IsFirst s' N q := by
  have hq := h.1
  refine ⟨hq, fun n hn => ?_, fun n hn => ?_⟩
  · rw [← e n hn, ← e q hq]; exact h.2.1 n hn
  · rw [← e n (lt_trans hn hq), ← e q hq]; exact h.2.2 n hn

/-- Entries at minus infinity past `N` change nothing. -/
theorem IsFirst.restrict {s : ℕ → EReal} {N M q : ℕ} (h : IsFirst s M q) (hN : 0 < N) (hM : N ≤ M) (hbot : ∀ n, N ≤ n → s n = ⊥) : IsFirst s N q := by
  have hq : q < N := by
    by_contra hc
    have h0 := h.2.2 0 (by omega)
    rw [hbot q (by omega)] at h0
    exact absurd h0 not_lt_bot
  exact ⟨hq, fun n hn => h.2.1 n (by omega), h.2.2⟩

/-! ## The running maximum -/

/-- The running maximum and the index it was reached at, after `n` entries. -/
noncomputable def running (s : ℕ → EReal) : ℕ → EReal × ℕ
  | 0 => (⊥, 0)
  | n + 1 => if (running s n).1 < s n then (s n, n) else running s n

theorem running_spec (s : ℕ → EReal) : ∀ n, IsFirst s (n + 1) (running s (n + 1)).2 ∧ (running s (n + 1)).1 = s (running s (n + 1)).2
  | 0 => by
    by_cases h : (⊥ : EReal) < s 0
    · have e : running s 1 = (s 0, 0) := if_pos h
      rw [e]
      exact ⟨⟨by omega, fun n hn => by rw [show n = 0 by omega], fun n hn => absurd hn (Nat.not_lt_zero n)⟩, rfl⟩
    · have e : running s 1 = (⊥, 0) := if_neg h
      have hb : s 0 = ⊥ := by simpa using h
      rw [e]
      exact ⟨⟨by omega, fun n hn => by rw [show n = 0 by omega], fun n hn => absurd hn (Nat.not_lt_zero n)⟩, hb.symm⟩
  | n + 1 => by
    obtain ⟨⟨h1, h2, h3⟩, hv⟩ := running_spec s n
    by_cases h : (running s (n + 1)).1 < s (n + 1)
    · have e : running s (n + 2) = (s (n + 1), n + 1) := if_pos h
      have hlt : ∀ k < n + 1, s k < s (n + 1) := fun k hk => lt_of_le_of_lt (h2 k hk) (hv ▸ h)
      rw [e]
      refine ⟨⟨by omega, fun k hk => ?_, hlt⟩, rfl⟩
      rcases Nat.lt_succ_iff_lt_or_eq.mp hk with hk | hk
      · exact le_of_lt (hlt k hk)
      · rw [hk]
    · have e : running s (n + 2) = running s (n + 1) := if_neg h
      rw [e]
      refine ⟨⟨by omega, fun k hk => ?_, h3⟩, hv⟩
      rcases Nat.lt_succ_iff_lt_or_eq.mp hk with hk | hk
      · exact h2 k hk
      · rw [hk, ← hv]; exact not_lt.mp h

/-! ## Lanes -/

/-- Entry `L * n + l` of the sequence is lane `l`'s entry `n`. Each lane's first maximum is at `K l`; among the lanes whose
    maximum is the overall one the least index is the sequence's first maximum. -/
theorem IsFirst.of_lanes {g : ℕ → EReal} {L N : ℕ} {K : ℕ → ℕ} (hlane : ∀ l < L, IsFirst (fun n => g (n * L + l)) N (K l))
    {M : EReal} (hM : ∀ l < L, g (K l * L + l) ≤ M) {l₀ : ℕ} (hl₀ : l₀ < L) (hat : g (K l₀ * L + l₀) = M)
    (hleast : ∀ l < L, g (K l * L + l) = M → K l₀ * L + l₀ ≤ K l * L + l) : IsFirst g (N * L) (K l₀ * L + l₀) := by
  have hL : 0 < L := by omega
  have hle : ∀ q < N * L, g q ≤ g (K (q % L) * L + q % L) := fun q hq => by
    have h := (hlane (q % L) (Nat.mod_lt q hL)).2.1 (q / L) ((Nat.div_lt_iff_lt_mul hL).mpr hq)
    simpa only [Nat.div_add_mod'] using h
  have hK : K l₀ * L + l₀ < N * L := by
    have h := (hlane l₀ hl₀).1
    calc K l₀ * L + l₀ < (K l₀ + 1) * L := by rw [Nat.add_mul]; omega
      _ ≤ N * L := Nat.mul_le_mul_right L h
  refine ⟨hK, fun q hq => ?_, fun q hq => ?_⟩
  · rw [hat]
    exact le_trans (hle q hq) (hM _ (Nat.mod_lt q hL))
  · rw [hat]
    have hqN : q < N * L := lt_trans hq hK
    refine lt_of_le_of_ne (le_trans (hle q hqN) (hM _ (Nat.mod_lt q hL))) fun e => ?_
    have hm := Nat.mod_lt q hL
    have hqd := Nat.div_add_mod' q L
    have e' : g (K (q % L) * L + q % L) = M := le_antisymm (hM _ hm) (e ▸ hle q hqN)
    have hleq := hleast (q % L) hm e'
    have hkq : K (q % L) ≤ q / L := by
      by_contra hc
      have h := (hlane (q % L) hm).2.2 (q / L) (by omega)
      simp only [hqd] at h
      rw [e, e'] at h
      exact lt_irrefl _ h
    have := Nat.mul_le_mul_right L hkq
    omega

end Cert.Sampler
-- ==== Proof.Lanes.lean ====
/- The accumulators after any number of blocks: per lane the running maximum of that lane's scores and the chunk it was
   reached at. -/
module

public import proofs.«01_k».proof.Proof.Run
public import proofs.«01_k».proof.Proof.Noise
public import proofs.«01_k».proof.Proof.FirstMax

@[expose] public section

set_option maxRecDepth 65536

noncomputable section

namespace Cert.Sampler

open Cert.KernelIdeal Cert.KernelIdeal.Gen
open Idealize.ShloMosaic

variable (x : FVec Ideal S64x8x100000 .f32) (w : FVec Ideal S100000 .f32)

/-- Row `r`'s score at column `q`: the sum plus the noise of the entry's position. -/
def score (r : Fin 64) (q : ℕ) : EReal := sumAt x w r q + Word.noise (Word.bits (BitVec.ofNat 32 (r.val * 100000 + q)))

/-- Past the vocabulary a score is minus infinity. -/
theorem score_past (r : Fin 64) (q : ℕ) (h : 100000 ≤ q) : score x w r q = ⊥ := by
  unfold score sumAt
  rw [dif_neg (by omega)]
  exact EReal.bot_add _

/-- Lane `l`'s scores, chunk by chunk. -/
def lane (r : Fin 64) (l : Fin 128) (n : ℕ) : EReal := score x w r (n * 128 + l.val)

/-- What a chunk finds and leaves at an entry, after `n` chunks in all. -/
structure At (r : Fin 64) (l : Fin 128) (n : ℕ) (s : Carry Ideal) : Prop where
  cnt : s.cnt (ix2 r l) = BitVec.ofNat 32 (r.val * 100000 + (n * 128 + l.val))
  y : s.y (ix2 r l) = (running (lane x w r l) n).1
  k : s.k (ix2 r l) = BitVec.ofNat 32 (running (lane x w r l) n).2

theorem scores_apply (cnt : IVec S64x128 32) (fl : Vec Ideal S64x128 .f32) (r : Fin 64) (l : Fin 128) :
    scores (F := Ideal) cnt fl (ix2 r l) = (fl (ix2 r l) : EReal) + Word.noise (Word.bits (cnt (ix2 r l))) := by
  rw [← Word.bits_apply, ← Word.noise_apply]
  unfold scores
  pointwise

/-- One chunk. -/
theorem At.step {r : Fin 64} {l : Fin 128} {s : Carry Ideal} {t n : ℕ} (h : At x w r l (25 * t + n) s) (fl : Vec Ideal S64x128 .f32)
    (hfl : fl (ix2 r l) = sumAt x w r ((25 * t + n) * 128 + l.val)) :
    At x w r l (25 * t + n + 1) (step (BitVec.ofNat 32 t) (BitVec.ofNat 32 n) s fl) := by
  have hs : scores (F := Ideal) s.cnt fl (ix2 r l) = lane x w r l (25 * t + n) := by
    rw [scores_apply, h.cnt, hfl]; rfl
  have hc : cmpf .ogt (scores (F := Ideal) s.cnt fl) s.y (ix2 r l) = BitVec.ofBool (decide ((running (lane x w r l) (25 * t + n)).1 < lane x w r l (25 * t + n))) := by
    show FloatOps.cmpf .ogt (scores (F := Ideal) s.cnt fl (ix2 r l)) (s.y (ix2 r l)) = _
    rw [hs, h.y]
    rfl
  have hk : Scalar.addi (Scalar.muli (BitVec.ofNat 32 t) 25#32) (BitVec.ofNat 32 n) = BitVec.ofNat 32 (25 * t + n) := by
    show BitVec.ofNat 32 t * BitVec.ofNat 32 25 + BitVec.ofNat 32 n = _
    rw [← BitVec.ofNat_mul, ← BitVec.ofNat_add, Nat.mul_comm]
  refine ⟨?_, ?_, ?_⟩
  · show s.cnt (ix2 r l) + BitVec.ofNat 32 128 = _
    rw [h.cnt, ← BitVec.ofNat_add]
    exact congrArg (BitVec.ofNat 32) (by omega)
  · show Scalar.select (cmpf .ogt (scores (F := Ideal) s.cnt fl) s.y (ix2 r l)) (scores (F := Ideal) s.cnt fl (ix2 r l)) (s.y (ix2 r l)) = _
    rw [hc, hs, h.y]
    show _ = (if (running (lane x w r l) (25 * t + n)).1 < lane x w r l (25 * t + n) then _ else _ : EReal × ℕ).1
    by_cases hlt : (running (lane x w r l) (25 * t + n)).1 < lane x w r l (25 * t + n)
    · rw [if_pos hlt, decide_eq_true hlt]; rfl
    · rw [if_neg hlt, decide_eq_false hlt]; rfl
  · show Scalar.select (cmpf .ogt (scores (F := Ideal) s.cnt fl) s.y (ix2 r l)) (Scalar.addi (Scalar.muli (BitVec.ofNat 32 t) 25#32) (BitVec.ofNat 32 n)) (s.k (ix2 r l)) = _
    rw [hc, hk, h.k]
    show _ = BitVec.ofNat 32 (if (running (lane x w r l) (25 * t + n)).1 < lane x w r l (25 * t + n) then _ else _ : EReal × ℕ).2
    by_cases hlt : (running (lane x w r l) (25 * t + n)).1 < lane x w r l (25 * t + n)
    · rw [if_pos hlt, decide_eq_true hlt]; rfl
    · rw [if_neg hlt, decide_eq_false hlt]; rfl

/-- A chunk's tile of a block of sums. -/
theorem tile_apply (t : ℕ) (n : Fin 25) (r : Fin 64) (l : Fin 128) :
    tile (F := Ideal) (blockSum x w t) n (ix2 r l) = sumAt x w r ((25 * t + n.val) * 128 + l.val) := by
  show sumAt x w _ _ = _
  have e := off3_eq n
  congr 1
  · apply Fin.ext
    simp [Rect.emb_apply, e]
  · simp [Rect.emb_apply, e]
    omega

/-- The chunks of one block. -/
theorem At.carry {i : grid0.Coords} {t : ℕ} (hi : (i 0).val = t) {r : Fin 64} {l : Fin 128} {s : Carry Ideal} (h : At x w r l (25 * t) s) :
    ∀ (n : ℕ) (hn : n ≤ 25), At x w r l (25 * t + n) (carry (F := Ideal) i (blockSum x w t) s n hn)
  | 0, _ => h
  | n + 1, hn => by
    have ih := At.carry hi h n (Nat.le_of_succ_le hn)
    have e := ih.step x w (tile (F := Ideal) (blockSum x w t) ⟨n, hn⟩) (tile_apply x w t ⟨n, hn⟩ r l)
    rw [← hi] at e ⊢
    exact e

/-- The counters a block starts from. -/
theorem counters_apply {i : grid0.Coords} {t : ℕ} (hi : (i 0).val = t) (r : Fin 64) (l : Fin 128) :
    counters i (ix2 r l) = BitVec.ofNat 32 (r.val * 100000 + (25 * t * 128 + l.val)) := by
  unfold counters
  pointwise
  rw [hi]
  show BitVec.ofNat 32 r.val * BitVec.ofNat 32 100000 + BitVec.ofNat 32 l.val + BitVec.ofNat 32 t * BitVec.ofNat 32 3200 = _
  rw [← BitVec.ofNat_mul, ← BitVec.ofNat_mul, ← BitVec.ofNat_add, ← BitVec.ofNat_add]
  exact congrArg (BitVec.ofNat 32) (by omega)

theorem start_y (j : S64x128.Idx) : Acc.start.y j = (⊥ : EReal) := by
  show (k0_pay8 (F := Ideal) : FVec Ideal S64x128 .f32) j = _
  rw [← ofBits_negInf]
  unfold k0_pay8
  pointwise

theorem start_k (j : S64x128.Idx) : Acc.start.k j = BitVec.ofNat 32 0 := by
  show (k0_pay9 : Vec Ideal S64x128 .i32) j = _
  unfold k0_pay9
  pointwise

/-- The accumulators after `t` blocks, at an entry. -/
theorem accAfter_at (r : Fin 64) (l : Fin 128) : ∀ (t : ℕ) (h : t ≤ cfg0.N),
    (accAfter x w t h).y (ix2 r l) = (running (lane x w r l) (25 * t)).1 ∧ (accAfter x w t h).k (ix2 r l) = BitVec.ofNat 32 (running (lane x w r l) (25 * t)).2
  | 0, _ => ⟨start_y _, start_k _⟩
  | t + 1, h => by
    obtain ⟨hy, hk⟩ := accAfter_at r l t (Nat.le_of_succ_le h)
    have hi : (grid0.coords ⟨t, h⟩ 0).val = t := coord ⟨t, h⟩
    have e : At x w r l (25 * t + 25) (after (F := Ideal) (grid0.coords ⟨t, h⟩) (blockSum x w t) (accAfter x w t (Nat.le_of_succ_le h)).y
        (accAfter x w t (Nat.le_of_succ_le h)).k) := by
      refine At.carry x w hi ⟨counters_apply hi r l, ?_, ?_⟩ 25 (Nat.le_refl 25)
      · by_cases hf : isFirst (grid0.coords ⟨t, h⟩)
        · have h0 : t = 0 := (ValueRun.isFirst_iff ⟨t, h⟩).1 hf
          subst h0
          rw [if_pos hf]
          exact start_y _
        · rw [if_neg hf]
          exact hy
      · by_cases hf : isFirst (grid0.coords ⟨t, h⟩)
        · have h0 : t = 0 := (ValueRun.isFirst_iff ⟨t, h⟩).1 hf
          subst h0
          simp only [if_pos hf]
          exact start_k (ix2 r l)
        · simp only [if_neg hf]
          exact hk
    exact ⟨e.y, e.k⟩

end Cert.Sampler
end
-- ==== Proof.Results.lean ====
/- What the kernel's results hold after its run, over the extended reals: the sums, and per row the id picked off the
   accumulators after the last block. -/
module

public import proofs.«01_k».proof.Proof.Run

@[expose] public section

set_option maxRecDepth 65536

noncomputable section

namespace Cert.Sampler

open Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ)

/-- The sums as an array. -/
def sumsOut (x : FVec Ideal S64x8x100000 .f32) (w : FVec Ideal S100000 .f32) : FVec Ideal S64x100000 .f32 :=
  fun j => sumAt x w (j 0) (j 1).val

/-- The accumulators after all blocks. -/
def accOut (x : FVec Ideal S64x8x100000 .f32) (w : FVec Ideal S100000 .f32) : Acc := accAfter x w cfg0.N (Nat.le_refl _)

/-- The ids as the window holds them, -/
def idsWin (x : FVec Ideal S64x8x100000 .f32) (w : FVec Ideal S100000 .f32) : Vec Ideal S64x1 .i32 := pick (accOut x w).y (accOut x w).k

/-- and as the result has them. -/
def idsOut (x : FVec Ideal S64x8x100000 .f32) (w : FVec Ideal S100000 .f32) : Vec Ideal S64 .i32 :=
  fun r => idsWin x w (ix2 (r 0) (0 : Fin 1))

namespace ValueRun

theorem arr_sums (c : Dev nD) : (dats m 0 c).arrAt (2 : Fin 4) (cfgs 0).N = sumsOut (X m c) (W m c) := by
  refine (dats m 0 c).arrAt_eq_of_covers (2 : Fin 4) _ (by decide +kernel) fun t hf y => ?_
  blk_simp
  show sumAt _ _ _ _ = sumAt _ _ _ _
  congr 1
  · apply Fin.ext
    blk_simp [index2 t]
  · blk_simp [index2 t]
    simp only [Nat.mul_comm, Nat.add_comm]

/-- The last grid point. -/
def lastPt : Fin cfg0.N := ⟨31, by decide⟩

theorem arr_ids (c : Dev nD) : (dats m 0 c).arrAt (3 : Fin 4) (cfgs 0).N = idsWin (X m c) (W m c) := by
  refine (dats m 0 c).arrAt_eq_of_after_last (3 : Fin 4) lastPt (by decide +kernel) _ fun j => ?_
  blk_simp
  rfl

/-- The reshape after the region. -/
theorem tail_ids (c : Dev nD) : Pipeline.afterTail₀ cfgs (dats m) 0 (V0 m) [hostOps1] c main_v3 = idsOut (X m c) (W m c) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.tc.devRef main_v2_1) = idsWin (X m c) (W m c) from
    (Pipeline.withArrays_arr spec0 (by decide) c (V0 m c) (fun w => (dats m 0 c).arrAt w (cfgs 0).N) (3 : Fin 4)).trans (arr_ids m c)]
  funext r
  idx_vars r
  unfold idsOut
  pointwise

/-- The results and the arguments after the run. -/
theorem results (g : Dev nD → PrngReg) : θ_run defs (onTc (τ := τ) (main (F := Ideal))) (s₀ m g) fun r => ∀ c : Dev nD,
    r.2.mem ((c : Thread nD τ).loc main_v3) = idsOut (X m c) (W m c) ∧ r.2.mem ((c : Thread nD τ).loc main_v2_0) = sumsOut (X m c) (W m c)
      ∧ r.2.mem ((c : Thread nD τ).loc main_arg0) = X m c ∧ r.2.mem ((c : Thread nD τ).loc main_arg1) = W m c := by
  run_from run m g
  · exact tail_ids m c
  · exact arr_sums m c
  · exact W_main_arg1 m (dats m) c

end ValueRun
end Cert.Sampler
end
-- ==== Proof.Choice.lean ====
/- Folding with an operation that keeps the operand of the larger key: the result is the start or an entry, and has the
   largest key. -/
module

public import Mathlib.Data.EReal.Basic
public import Mathlib.Data.Finset.Fold

@[expose] public section

namespace Cert.Sampler

variable {α β ι : Type} [LinearOrder β] {op : α → α → α} {key : α → β}

/-- `op` keeps one of its operands, one whose key is not the smaller. -/
def Keeps (op : α → α → α) (key : α → β) : Prop := ∀ a b, op a b = a ∧ key b ≤ key a ∨ op a b = b ∧ key a ≤ key b

/-- `v` is the start or an entry, and no key among these is above its own. -/
structure Best (key : α → β) (b : α) (p : α → Prop) (v : α) : Prop where
  start : key b ≤ key v
  le : ∀ a, p a → key a ≤ key v
  mem : v = b ∨ p v

theorem Keeps.list (h : Keeps op key) : ∀ (l : List α) (b : α), Best key b (· ∈ l) (l.foldl op b)
  | [], b => ⟨le_refl _, fun a ha => absurd ha (by simp), Or.inl rfl⟩
  | a :: l, b => by
    have ih := Keeps.list h l (op b a)
    rw [List.foldl_cons]
    rcases h b a with ⟨e, hk⟩ | ⟨e, hk⟩
    · rw [e] at ih ⊢
      refine ⟨ih.start, fun c hc => ?_, ih.mem.imp_right (List.mem_cons_of_mem a)⟩
      rcases List.mem_cons.mp hc with rfl | hc
      · exact le_trans hk ih.start
      · exact ih.le c hc
    · rw [e] at ih ⊢
      refine ⟨le_trans hk ih.start, fun c hc => ?_, Or.inr ?_⟩
      · rcases List.mem_cons.mp hc with rfl | hc
        · exact ih.start
        · exact ih.le c hc
      · rcases ih.mem with e | hm
        · rw [e]; exact List.mem_cons_self
        · exact List.mem_cons_of_mem a hm

theorem Keeps.finset [DecidableEq ι] [Std.Commutative op] [Std.Associative op] (h : Keeps op key) (b : α) (f : ι → α) (s : Finset ι) :
    Best key b (fun a => ∃ i ∈ s, a = f i) (s.fold op b f) := by
  induction s using Finset.induction_on with
  | empty => exact ⟨le_of_eq (by rw [Finset.fold_empty]), fun a ⟨i, hi, _⟩ => absurd hi (Finset.notMem_empty i), Or.inl (by rw [Finset.fold_empty])⟩
  | insert i s hi ih =>
    rw [Finset.fold_insert hi]
    rcases h (f i) (s.fold op b f) with ⟨e, hk⟩ | ⟨e, hk⟩
    · rw [e]
      refine ⟨le_trans ih.start hk, ?_, Or.inr ⟨i, Finset.mem_insert_self i s, rfl⟩⟩
      rintro a ⟨j, hj, rfl⟩
      rcases Finset.mem_insert.mp hj with rfl | hj
      · exact le_refl _
      · exact le_trans (ih.le _ ⟨j, hj, rfl⟩) hk
    · rw [e]
      refine ⟨ih.start, ?_, ih.mem.imp_right fun ⟨j, hj, e⟩ => ⟨j, Finset.mem_insert_of_mem hj, e⟩⟩
      rintro a ⟨j, hj, rfl⟩
      rcases Finset.mem_insert.mp hj with rfl | hj
      · exact hk
      · exact ih.le _ ⟨j, hj, rfl⟩

end Cert.Sampler
-- ==== Proof.Pick.lean ====
/- The id picked off the accumulators: the column of the row's first largest score. -/
module

public import proofs.«01_k».proof.Proof.Lanes
public import proofs.«01_k».proof.Proof.Results
public import proofs.«01_k».proof.Proof.Choice

@[expose] public section

set_option maxRecDepth 65536

noncomputable section

namespace Cert.Sampler

open Cert.KernelIdeal Cert.KernelIdeal.Gen
open Idealize.ShloMosaic

/-- The entries a row's reduction runs over. -/
theorem mem_row (r : Fin 64) (i : S64x128.Idx) :
    i ∈ (Finset.univ.filter fun i => Facts₀.reduces_S64x128_S64.drop i = ix1 r) ↔ ∃ l : Fin 128, i = ix2 r l := by
  rw [Finset.mem_filter]
  have e : ((Facts₀.reduces_S64x128_S64.drop i) 0 : ℕ) = i 0 := Shape.Reduces.drop_apply_val_of_eq Facts₀.reduces_S64x128_S64 i 0 0
  constructor
  · rintro ⟨_, h⟩
    refine ⟨i 1, ?_⟩
    idx_vars i
    rw [h] at e
    exact congrArg (fun a => ix2 a _) (Fin.ext e.symm)
  · rintro ⟨l, rfl⟩
    refine ⟨Finset.mem_univ _, ?_⟩
    funext a
    have ha : a = 0 := Subsingleton.elim _ _
    subst ha
    exact Fin.ext e

/-- The largest accumulator of each row. -/
def rowMax (y : FVec Ideal S64x128 .f32) : FVec Ideal S64 .f32 :=
  multiReduction .maximumf [1] S64 y 0xFF800000#32 Facts₀.reduces_S64x128_S64 (.inl rfl) rfl

theorem keeps_max : Keeps (max : EReal → EReal → EReal) id := fun a b => by
  rcases le_total b a with h | h
  · exact Or.inl ⟨max_eq_left h, h⟩
  · exact Or.inr ⟨max_eq_right h, h⟩

theorem rowMax_best (y : FVec Ideal S64x128 .f32) (r : Fin 64) :
    Best id (⊥ : EReal) (fun a => ∃ i ∈ (Finset.univ.filter fun i => Facts₀.reduces_S64x128_S64.drop i = ix1 r), a = y i) (rowMax y (ix1 r)) := by
  rw [show rowMax y (ix1 r) = _ from multiReduction_maximumf_eq_fold y 0xFF800000#32 Facts₀.reduces_S64x128_S64 (.inl rfl) rfl (ix1 r),
    show (FloatOps.ofBits .f32 0xFF800000#32 : Ideal .f32) = (⊥ : EReal) from ofBits_negInf]
  exact keeps_max.finset ⊥ y _

theorem keeps_min : Keeps (IntOp.minsi : BitVec 32 → BitVec 32 → BitVec 32) (fun v => OrderDual.toDual v.toInt) := fun a b => by
  show (if a.slt b then a else b) = a ∧ a.toInt ≤ b.toInt ∨ (if a.slt b then a else b) = b ∧ b.toInt ≤ a.toInt
  by_cases h : a.toInt < b.toInt
  · rw [show a.slt b = true from decide_eq_true h]
    exact Or.inl ⟨rfl, le_of_lt h⟩
  · rw [show a.slt b = false from decide_eq_false h]
    exact Or.inr ⟨rfl, not_lt.mp h⟩

/-- A lane's candidate: its column when it holds the row's maximum, else a word above all columns. -/
def cand (y : FVec Ideal S64x128 .f32) (k : Vec Ideal S64x128 .i32) (i : S64x128.Idx) : BitVec 32 :=
  if y i = rowMax y (ix1 (i 0)) then k i * 128#32 + BitVec.ofNat 32 (i 1).val else 2147483647#32

theorem pick_best (y : FVec Ideal S64x128 .f32) (k : Vec Ideal S64x128 .i32) (r : Fin 64) :
    Best (fun v : BitVec 32 => OrderDual.toDual v.toInt) 2147483647#32
      (fun a => ∃ i ∈ (Finset.univ.filter fun i => Facts₀.reduces_S64x128_S64.drop i = ix1 r), a = cand y k i)
      (pick (F := Ideal) y k (ix2 r (0 : Fin 1))) := by
  have e : pick (F := Ideal) y k (ix2 r (0 : Fin 1)) = multiReductionI .minsi [1] S64 (cand y k) 2147483647#32 Facts₀.reduces_S64x128_S64 rfl (ix1 r) := by
    have hc : select (cmpf .oeq y (broadcastTo S64x128 (shapeCast S64x1 (rowMax y) Facts₀.shapeCasts_S64_S64x1) Facts₀.broadcasts_S64x1_S64x128))
        (addi (muli k (broadcast S64x128 128#32)) (iota .tc S64x128 32 [1] Facts₀.iota_S64x128_d1_w32)) (broadcast S64x128 2147483647#32) = cand y k := by
      funext i
      idx_vars i
      unfold cand
      pointwise
      rfl
    show shapeCast S64x1 (multiReductionI .minsi [1] S64 (select (cmpf .oeq y (broadcastTo S64x128 (shapeCast S64x1 (rowMax y) Facts₀.shapeCasts_S64_S64x1) Facts₀.broadcasts_S64x1_S64x128))
        (addi (muli k (broadcast S64x128 128#32)) (iota .tc S64x128 32 [1] Facts₀.iota_S64x128_d1_w32)) (broadcast S64x128 2147483647#32)) 2147483647#32 Facts₀.reduces_S64x128_S64 rfl)
        Facts₀.shapeCasts_S64_S64x1 (ix2 r (0 : Fin 1)) = _
    rw [hc]
    pointwise
  rw [e, multiReductionI_eq_fold .minsi (cand y k) 2147483647#32 Facts₀.reduces_S64x128_S64 rfl (ix1 r)]
  exact keeps_min.finset (2147483647#32) (cand y k) _

variable (x : FVec Ideal S64x8x100000 .f32) (w : FVec Ideal S100000 .f32)

/-- Row `r`'s id is the column of its first largest score. -/
theorem idsOut_first (r : Fin 64) : ∃ q, IsFirst (score x w r) 100000 q ∧ idsOut x w (ix1 r) = BitVec.ofNat 32 q := by
  let K : ℕ → ℕ := fun l => (running (fun n => score x w r (n * 128 + l)) 800).2
  let y := (accOut x w).y
  let k := (accOut x w).k
  have hlane : ∀ l < 128, IsFirst (fun n => score x w r (n * 128 + l)) 800 (K l) := fun l _ => (running_spec _ 799).1
  have hyk (l : Fin 128) : y (ix2 r l) = score x w r (K l.val * 128 + l.val) ∧ k (ix2 r l) = BitVec.ofNat 32 (K l.val) := by
    obtain ⟨h1, h2⟩ := accAfter_at x w r l cfg0.N (Nat.le_refl _)
    exact ⟨h1.trans (running_spec (lane x w r l) 799).2, h2⟩
  have hq (l : Fin 128) : K l.val * 128 + l.val < 102400 := by
    have := (hlane l.val l.isLt).1
    have := l.isLt
    omega
  have hcand (l : Fin 128) : cand y k (ix2 r l) = if score x w r (K l.val * 128 + l.val) = rowMax y (ix1 r) then BitVec.ofNat 32 (K l.val * 128 + l.val) else 2147483647#32 := by
    show (if y (ix2 r l) = rowMax y (ix1 r) then k (ix2 r l) * BitVec.ofNat 32 128 + BitVec.ofNat 32 l.val else _) = _
    rw [(hyk l).1, (hyk l).2, ← BitVec.ofNat_mul, ← BitVec.ofNat_add]
  have hint (l : Fin 128) : (BitVec.ofNat 32 (K l.val * 128 + l.val)).toInt = (K l.val * 128 + l.val : ℕ) := by
    have := hq l
    rw [BitVec.toInt_eq_toNat_of_lt (by rw [BitVec.toNat_ofNat]; omega), BitVec.toNat_ofNat, Nat.mod_eq_of_lt (by omega)]
  have hmax := rowMax_best y r
  have hM (l : Fin 128) : score x w r (K l.val * 128 + l.val) ≤ rowMax y (ix1 r) := by
    rw [← (hyk l).1]
    exact hmax.le _ ⟨_, (mem_row r _).2 ⟨l, rfl⟩, rfl⟩
  have hex : ∃ l : Fin 128, score x w r (K l.val * 128 + l.val) = rowMax y (ix1 r) := by
    rcases hmax.mem with e | ⟨i, hi, e⟩
    · exact ⟨0, le_antisymm (hM 0) (e ▸ bot_le)⟩
    · obtain ⟨l, rfl⟩ := (mem_row r i).1 hi
      exact ⟨l, (hyk l).1.symm.trans e.symm⟩
  obtain ⟨l₁, h₁⟩ := hex
  have hmin := pick_best y k r
  have hle (l : Fin 128) (h : score x w r (K l.val * 128 + l.val) = rowMax y (ix1 r)) :
      (pick (F := Ideal) y k (ix2 r (0 : Fin 1))).toInt ≤ (K l.val * 128 + l.val : ℕ) := by
    have := hmin.le _ ⟨_, (mem_row r _).2 ⟨l, rfl⟩, rfl⟩
    rw [hcand, if_pos h] at this
    rw [← hint l]
    exact this
  have hbig : (2147483647#32 : BitVec 32).toInt = 2147483647 := by decide
  have hne : pick (F := Ideal) y k (ix2 r (0 : Fin 1)) ≠ 2147483647#32 := fun e => by
    have h := hle l₁ h₁
    rw [e, hbig] at h
    have := hq l₁
    omega
  obtain ⟨l₀, h₀, e₀⟩ : ∃ l : Fin 128, score x w r (K l.val * 128 + l.val) = rowMax y (ix1 r) ∧
      pick (F := Ideal) y k (ix2 r (0 : Fin 1)) = BitVec.ofNat 32 (K l.val * 128 + l.val) := by
    rcases hmin.mem with e | ⟨i, hi, e⟩
    · exact absurd e hne
    · obtain ⟨l, rfl⟩ := (mem_row r i).1 hi
      rw [hcand] at e
      by_cases h : score x w r (K l.val * 128 + l.val) = rowMax y (ix1 r)
      · exact ⟨l, h, by rw [e, if_pos h]⟩
      · exact absurd (by rw [e, if_neg h]) hne
  have hall : IsFirst (score x w r) (800 * 128) (K l₀.val * 128 + l₀.val) :=
    IsFirst.of_lanes hlane (fun l hl => hM ⟨l, hl⟩) l₀.isLt h₀ fun l hl h => by
      have := hle ⟨l, hl⟩ h
      rw [e₀, hint l₀] at this
      exact Int.ofNat_le.mp this
  exact ⟨_, hall.restrict (by omega) (by omega) (score_past x w r), e₀⟩

end Cert.Sampler
end
-- ==== Proof.RefNoise.lean ====
/- The reference's noise read at an entry: the same function of the same counter word, the entry's position in row-major
   order. -/
module

public import proofs.«01_k».proof.Proof.Noise
public import proofs.«01_k».proof.Proof.RefRun

@[expose] public section

set_option maxRecDepth 65536

noncomputable section

namespace Cert.RefRun

open Cert.ReferenceIdeal
open Idealize.ShloMosaic
open Cert.Sampler

theorem shli_unit (x r : BitVec 32) (h : r.toNat < 32) : IntOp.shli .host x r = IntOp.shli .vector x r := by
  unfold IntOp.shli; rw [if_pos h, if_pos h]
theorem shrui_unit (x r : BitVec 32) (h : r.toNat < 32) : IntOp.shrui .host x r = IntOp.shrui .vector x r := by
  unfold IntOp.shrui; rw [if_pos h, if_pos h]

theorem entry_round (r r' : BitVec 32) (h : r.toNat < 32) (h' : r'.toNat < 32) (p : Words × Words) (x : S64x100000.Idx) :
    Word.entry (round r r' p) x = Word.round r r' (Word.entry p x) := by
  show ((p.1 x + p.2 x, (p.1 x + p.2 x) ^^^ IntOp.ori (IntOp.shli .host (p.2 x) r) (IntOp.shrui .host (p.2 x) r')) : BitVec 32 × BitVec 32) = _
  rw [shli_unit _ _ h, shrui_unit _ _ h', BitVec.xor_comm]
  rfl

theorem entry_rounds0 (p : Words × Words) (x : S64x100000.Idx) :
    Word.entry (rounds0 p) x = Word.rounds0 (Word.entry p x) := by
  unfold rounds0 Word.rounds0
  rw [entry_round _ _ (by decide) (by decide), entry_round _ _ (by decide) (by decide), entry_round _ _ (by decide) (by decide), entry_round _ _ (by decide) (by decide)]
  rfl

theorem entry_rounds1 (p : Words × Words) (x : S64x100000.Idx) :
    Word.entry (rounds1 p) x = Word.rounds1 (Word.entry p x) := by
  unfold rounds1 Word.rounds1
  rw [entry_round _ _ (by decide) (by decide), entry_round _ _ (by decide) (by decide), entry_round _ _ (by decide) (by decide), entry_round _ _ (by decide) (by decide)]
  rfl

/-- A scalar spread over the array reads that scalar everywhere. -/
theorem spread_apply (a : Vec Ideal S_ .i32) (x : S64x100000.Idx) (i : S_.Idx) : spread a x = a i := by
  unfold spread broadcastInDim
  exact congrArg a (funext fun k => k.elim0)

theorem entry_inject (a b : Vec Ideal S_ .i32) (n : BitVec 32) (p : Words × Words) (x : S64x100000.Idx) (i : S_.Idx) :
    Word.entry (inject a b n p) x = Word.inject (a i) (b i + n) (Word.entry p x) := by
  show ((p.1 x + spread a x, (p.2 x + spread b x) + spread (constantI S_ 32 n) x) : BitVec 32 × BitVec 32) = (p.1 x + a i, p.2 x + (b i + n))
  rw [spread_apply a x i, spread_apply b x i, spread_apply _ x i, BitVec.add_assoc]
  rfl

theorem key0_eq (i) : key0 i = 0#32 := by
  unfold key0 key
  pointwise
  rfl

theorem key1_eq (i) : key1 i = 42#32 := by
  unfold key1 key
  pointwise
  rfl

theorem third_eq (i) : third key0 key1 i = 466689008#32 := by
  unfold third
  show (key0 i ^^^ key1 i) ^^^ 466688986#32 = _
  rw [key0_eq, key1_eq]
  decide

/-- The counter as a word of 64 bits: the position in row-major order. -/
theorem counter_apply (r : Fin 64) (q : Fin 100000) : counter (ix2 r q) = BitVec.ofNat 64 (r.val * 100000 + q.val) := by
  unfold counter
  pointwise
  show 100000#64 * BitVec.ofNat 64 r.val + 1#64 * BitVec.ofNat 64 q.val = _
  rw [← BitVec.ofNat_mul, ← BitVec.ofNat_mul, ← BitVec.ofNat_add]
  congr 1
  omega

/-- Its lower word is the position, -/
theorem counter_low (r : Fin 64) (q : Fin 100000) : trunci 32 counter Facts₀.natLt_32_64 (ix2 r q) = BitVec.ofNat 32 (r.val * 100000 + q.val) := by
  show BitVec.setWidth 32 (counter (ix2 r q)) = _
  rw [counter_apply]
  apply BitVec.eq_of_toNat_eq
  simp only [BitVec.toNat_setWidth, BitVec.toNat_ofNat]
  omega

/-- its upper word zero. -/
theorem counter_high (r : Fin 64) (q : Fin 100000) :
    trunci 32 (Host.shrui counter (broadcastInDim S64x100000 ![] Facts₀.bcast_S_S64x100000 (constantI S_ 64 32#64))) Facts₀.natLt_32_64 (ix2 r q) = 0#32 := by
  show BitVec.setWidth 32 (IntOp.shrui .host (counter (ix2 r q)) 32#64) = 0#32
  rw [counter_apply]
  unfold IntOp.shrui
  rw [if_pos (by decide)]
  apply BitVec.eq_of_toNat_eq
  have hr := r.isLt
  have hq := q.isLt
  rw [BitVec.ushiftRight_eq', show (32#64).toNat = 32 from rfl, BitVec.toNat_setWidth, BitVec.toNat_ushiftRight, Nat.shiftRight_eq_div_pow,
    BitVec.toNat_ofNat]
  rw [Nat.mod_eq_of_lt (by omega : r.val * 100000 + q.val < 2 ^ 64), Nat.div_eq_of_lt (by omega)]
  rfl

/-- The hash's first pair: zero, and the position plus the key's second word. -/
theorem start_apply (r : Fin 64) (q : Fin 100000) (u v : Words) (hu : u (ix2 r q) = 0#32) (hv : v (ix2 r q) = BitVec.ofNat 32 (r.val * 100000 + q.val)) :
    Word.entry (addi u (spread key0), addi v (spread key1)) (ix2 r q) = (0#32, BitVec.ofNat 32 (r.val * 100000 + q.val) + 42#32) := by
  show ((u (ix2 r q) + spread key0 (ix2 r q), v (ix2 r q) + spread key1 (ix2 r q)) : BitVec 32 × BitVec 32) = _
  rw [hu, hv, spread_apply _ _ (Shape.Idx.first Facts₀.h_S_), spread_apply _ _ (Shape.Idx.first Facts₀.h_S_), key0_eq, key1_eq]
  rfl

theorem words_apply (r : Fin 64) (q : Fin 100000) : Word.entry words (ix2 r q) = Word.words (BitVec.ofNat 32 (r.val * 100000 + q.val)) := by
  have e := entry_inject (i := Shape.Idx.first Facts₀.h_S_)
  unfold words threefry Word.words
  simp only [entry_rounds0, entry_rounds1, e, key0_eq, key1_eq, third_eq]
  rw [start_apply r q _ _ (counter_high r q) (counter_low r q)]
  rfl

/-- A logarithm does not see whether a number below zero is first raised to zero. -/
theorem log_max (u : EReal) : Ideal.log (max 0 u) = Ideal.log u := by
  rcases le_total 0 u with h | h
  · rw [max_eq_right h]
  · rw [max_eq_left h]
    have e0 : Ideal.log 0 = ⊥ := by
      show (if (0 : ℝ) ≤ 0 then (⊥ : EReal) else (Real.log 0 : EReal)) = ⊥
      rw [if_pos (le_refl _)]
    rw [e0]
    induction u with
    | bot => rfl
    | top => exact absurd h (by simp)
    | coe x =>
      have hx : x ≤ 0 := by exact_mod_cast h
      show ⊥ = if x ≤ 0 then ⊥ else (Real.log x : EReal)
      rw [if_pos hx]

theorem entry_xor (p : Words × Words) (x : S64x100000.Idx) (z : BitVec 32 × BitVec 32) (h : Word.entry p x = z) : p.1 x ^^^ p.2 x = z.1 ^^^ z.2 := by
  rw [← h]
  rfl

/-- The uniform numbers, whatever the words. -/
theorem uniform_of (p : Words × Words) (x : S64x100000.Idx) (hp : uniform = maximumf (spreadF1 lo)
    (addf
      (mulf
        (subf
          (bitcastToFloat .f32
            (ori (Host.shrui (xori p.1 p.2) (spread (constantI S_ 32 9#32))) (spread (constantI S_ 32 1065353216#32))))
          (spreadF (constant (F := Ideal) S_ .f32 0x3F800000#32)))
        (spreadF1 (subf hi lo)))
      (spreadF1 lo))) :
    uniform x = max 0 (Word.fraction (p.1 x ^^^ p.2 x) - 1) := by
  rw [hp]
  generalize hd : spread (constantI S_ 32 9#32) = d
  generalize ho : spread (constantI S_ 32 1065353216#32) = o
  have ed : d x = 9#32 := by rw [← hd, spread_apply _ x (Shape.Idx.first Facts₀.h_S_)]; rfl
  have eo : o x = 1065353216#32 := by rw [← ho, spread_apply _ x (Shape.Idx.first Facts₀.h_S_)]; rfl
  unfold spreadF1 spreadF lo hi Word.fraction
  idx_vars x
  pointwise
  rw [ed, eo, shrui_unit _ _ (by decide)]
  rfl

/-- The last two logarithms, whatever the numbers. -/
theorem logs_apply (u : FVec Ideal S64x100000 .f32) (x : S64x100000.Idx) :
    Host.negf (Host.log (Host.negf (Host.log u))) x = -Ideal.log (-Ideal.log (u x)) := rfl

theorem gumbel_apply (r : Fin 64) (q : Fin 100000) :
    gumbel (ix2 r q) = Word.noise (Word.bits (BitVec.ofNat 32 (r.val * 100000 + q.val))) := by
  unfold gumbel Word.noise Word.bits
  rw [logs_apply, uniform_of words _ (by unfold uniform; exact Eq.refl _), log_max, entry_xor words _ _ (words_apply r q)]

end Cert.RefRun
end
-- ==== Proof.RefArgmax.lean ====
/- The reference's arg-max of a row: the column of its first largest entry. -/
module

public import proofs.«01_k».proof.Proof.RefRun
public import proofs.«01_k».proof.Proof.FirstMax
public import proofs.«01_k».proof.Proof.Choice
public import proofs.«01_k».proof.Proof.Sums

@[expose] public section

set_option maxRecDepth 65536

noncomputable section

namespace Cert.RefRun

open Cert.ReferenceIdeal
open Idealize.ShloMosaic
open Cert.Sampler

/-- A pair's key: the value, then the smaller column. -/
def pairKey (a : EReal × BitVec 32) : EReal ×ₗ ℤᵒᵈ := toLex (a.1, OrderDual.toDual a.2.toInt)

theorem pairKey_le {a b : EReal × BitVec 32} : pairKey a ≤ pairKey b ↔ a.1 < b.1 ∨ a.1 = b.1 ∧ b.2.toInt ≤ a.2.toInt := Prod.Lex.le_iff

theorem keeps_pair : Keeps (reducer_argmax_f32_i32 (F := Ideal) : EReal × BitVec 32 → EReal × BitVec 32 → EReal × BitVec 32) pairKey := by
  rintro ⟨a, p⟩ ⟨b, q⟩
  rw [pairKey_le, pairKey_le]
  have e : reducer_argmax_f32_i32 (F := Ideal) (a, p) (b, q) =
      ((Scalar.select (IntOp.ori (BitVec.ofBool (decide (b < a))) (BitVec.ofBool (decide (a ≠ a)))) a b,
        Scalar.select (IntOp.ori (IntOp.ori (BitVec.ofBool (decide (b < a))) (BitVec.ofBool (decide (a ≠ a))))
          (IntOp.andi (BitVec.ofBool (decide (a = b))) (BitVec.ofBool (p.slt q)))) p q) : EReal × BitVec 32) := rfl
  have hn : decide (a ≠ a) = false := decide_eq_false fun h => h rfl
  rw [e, hn]
  by_cases h : b < a
  · rw [decide_eq_true h, decide_eq_false (ne_of_gt h)]
    left
    exact ⟨by cases p.slt q <;> rfl, Or.inl h⟩
  · rw [decide_eq_false h]
    by_cases h' : a = b
    · subst h'
      rw [decide_eq_true rfl]
      by_cases hp : p.toInt < q.toInt
      · rw [show p.slt q = true from decide_eq_true hp]
        exact Or.inl ⟨rfl, Or.inr ⟨rfl, le_of_lt hp⟩⟩
      · rw [show p.slt q = false from decide_eq_false hp]
        exact Or.inr ⟨rfl, Or.inr ⟨rfl, not_lt.mp hp⟩⟩
    · rw [decide_eq_false h']
      right
      exact ⟨by cases p.slt q <;> rfl, Or.inl (lt_of_le_of_ne (not_lt.mp h) h')⟩

/-- The pairs a row's reduction runs over. -/
theorem mem_fiber (y : FVec Ideal S64x100000 .f32) (r : Fin 64) (a : EReal × BitVec 32) :
    a ∈ Host.argReduceFiber (y : S64x100000.Idx → EReal) (iotaInDim S64x100000 32 1) Facts₀.reducesTo_S64x100000_S64_d1 (ix1 r) ↔
      ∃ q : Fin 100000, a = (y (ix2 r q), BitVec.ofNat 32 q.val) := by
  unfold Host.argReduceFiber
  rw [List.mem_map]
  have e (i : S64x100000.Idx) : ((Facts₀.reducesTo_S64x100000_S64_d1.drop i) 0 : ℕ) = i 0 :=
    Shape.ReducesTo.drop_apply_val_of_eq Facts₀.reducesTo_S64x100000_S64_d1 i 0 0
  constructor
  · rintro ⟨n, hn, rfl⟩
    have hd := of_decide_eq_true (List.mem_filter.mp hn).2
    generalize S64x100000.rowMajor.symm n = i at hd ⊢
    have e := e i
    rw [hd] at e
    idx_vars i
    refine ⟨i1, ?_⟩
    have hr : i0 = r := Fin.ext e.symm
    rw [hr]
    rfl
  · rintro ⟨q, rfl⟩
    refine ⟨S64x100000.rowMajor (ix2 r q), List.mem_filter.mpr ⟨List.mem_finRange _, decide_eq_true ?_⟩, ?_⟩
    · rw [Equiv.symm_apply_apply]
      funext a
      have ha : a = 0 := Subsingleton.elim _ _
      subst ha
      exact Fin.ext (e _)
    · rw [Equiv.symm_apply_apply]
      rfl

/-- A two-operand reduction as a fold from given starts. -/
theorem argReduce_fold {s t u : Shape} {axes : List (Fin s.rank)} (f : EReal × BitVec 32 → EReal × BitVec 32 → EReal × BitVec 32) (x : FVec Ideal s .f32)
    (y : s.Idx → BitVec 32) (ix : FVec Ideal u .f32) (iy : u.Idx → BitVec 32) (a : EReal) (b : BitVec 32)
    (h : s.ReducesTo axes t) (hu : 0 < u.numel) (ha : ix (Shape.Idx.first hu) = a) (hb : iy (Shape.Idx.first hu) = b) (j : t.Idx) :
    Host.argReduce (F := Ideal) (φ := .f32) f x y ix iy h hu j = (Host.argReduceFiber (x : s.Idx → EReal) y h j).foldl f (a, b) := by
  rw [← ha, ← hb]
  exact (congrFun (Ideal.argReduce_eq_reduce2 f x y ix iy h hu) j).trans (Host.reduce2_eq_foldl_fiber f x y ix iy h hu j)

/-- The best pair of a row has the column of the row's first largest entry. -/
theorem best_first (y : FVec Ideal S64x100000 .f32) (r : Fin 64) {s : ℕ → EReal} (hs : ∀ q : Fin 100000, s q.val = y (ix2 r q))
    {l : List (EReal × BitVec 32)} (hl : ∀ a, a ∈ l ↔ ∃ q : Fin 100000, a = (y (ix2 r q), BitVec.ofNat 32 q.val)) {v : EReal × BitVec 32}
    (hb : Best pairKey ((⊥ : EReal), 0#32) (· ∈ l) v) : ∃ q, IsFirst s 100000 q ∧ v.2 = BitVec.ofNat 32 q := by
  have hint (q : ℕ) (h : q < 100000) : (BitVec.ofNat 32 q).toInt = q := by
    rw [BitVec.toInt_eq_toNat_of_lt (by rw [BitVec.toNat_ofNat]; omega), BitVec.toNat_ofNat, Nat.mod_eq_of_lt (by omega)]
  have hle (q : ℕ) (h : q < 100000) : s q < v.1 ∨ s q = v.1 ∧ v.2.toInt ≤ q := by
    have := pairKey_le.1 (hb.le _ ((hl _).2 ⟨⟨q, h⟩, rfl⟩))
    rw [← hs ⟨q, h⟩, hint q h] at this
    exact this
  obtain ⟨p, hp, h1, h2⟩ : ∃ p, p < 100000 ∧ s p = v.1 ∧ v.2 = BitVec.ofNat 32 p := by
    rcases hb.mem with e | hm
    · refine ⟨0, by omega, ?_, by rw [e]⟩
      rcases hle 0 (by omega) with h | h
      · rw [e] at h
        exact absurd h not_lt_bot
      · exact h.1
    · obtain ⟨q, rfl⟩ := (hl v).1 hm
      exact ⟨q.val, q.isLt, hs q, rfl⟩
  refine ⟨p, ⟨hp, fun q hq => ?_, fun q hq => ?_⟩, h2⟩
  · rw [h1]
    rcases hle q hq with h | h
    · exact le_of_lt h
    · exact le_of_eq h.1
  · rw [h1]
    rcases hle q (by omega) with h | h
    · exact h
    · have := h.2
      rw [h2, hint p hp] at this
      omega

/-- The second components of an array of pairs. -/
def snds {ι α β : Type} (f : ι → α × β) : ι → β := fun j => (f j).2

theorem snds_apply {ι α β : Type} (f : ι → α × β) (j : ι) : snds f j = (f j).2 := rfl

/-- The arg-max is the second half of the reduction to pairs. -/
theorem argmax_eq : argmax = fun y => snds (Host.argReduce reducer_argmax_f32_i32 y (iotaInDim S64x100000 32 1) (constant (F := Ideal) S_ .f32 0xFF800000#32)
    (constantI S_ 32 0#32) Facts₀.reducesTo_S64x100000_S64_d1 Facts₀.h_S_) := Eq.refl _

/-- Row `r`'s arg-max is the column of its first largest entry. -/
theorem argmax_first (y : FVec Ideal S64x100000 .f32) (r : Fin 64) {s : ℕ → EReal} (hs : ∀ q : Fin 100000, s q.val = y (ix2 r q)) :
    ∃ q, IsFirst s 100000 q ∧ argmax y (ix1 r) = BitVec.ofNat 32 q := by
  have hf := argReduce_fold (reducer_argmax_f32_i32 (F := Ideal)) y (iotaInDim S64x100000 32 1) (constant (F := Ideal) S_ .f32 0xFF800000#32)
    (constantI S_ 32 0#32) (⊥ : EReal) 0#32 Facts₀.reducesTo_S64x100000_S64_d1 Facts₀.h_S_ ofBits_negInf (Eq.refl _) (ix1 r)
  have hb := keeps_pair.list (Host.argReduceFiber (y : S64x100000.Idx → EReal) (iotaInDim S64x100000 32 1) Facts₀.reducesTo_S64x100000_S64_d1 (ix1 r))
    ((⊥ : EReal), 0#32)
  rw [← hf] at hb
  obtain ⟨q, h, e⟩ := best_first y r hs (mem_fiber y r) hb
  refine ⟨q, h, ?_⟩
  exact (congrFun (congrFun argmax_eq y) (ix1 r)).trans ((snds_apply _ _).trans e)

end Cert.RefRun
end
-- ==== Proof.Value.lean ====
/- The value claim: both programs' results are the same arrays. -/
module

public import proofs.«01_k».proof.Defs
public import proofs.«01_k».proof.Proof.Pick
public import proofs.«01_k».proof.Proof.RefNoise
public import proofs.«01_k».proof.Proof.RefArgmax

@[expose] public section

set_option maxRecDepth 65536

noncomputable section

namespace Cert.Value

open Idealize.ShloMosaic Idealize.SL.Sem
open Cert.Sampler
open Cert.KernelIdeal (S64x8x100000 S64x100000 S100000 S64)

variable (x : FVec Ideal S64x8x100000 .f32) (w : FVec Ideal S100000 .f32)

/-- The reference's sum at an entry. -/
theorem final_apply (r : Fin 64) (q : Fin 100000) : Cert.RefRun.final x w (ix2 r q) = sumAt x w r q.val := by
  unfold sumAt
  rw [dif_pos q.isLt]
  unfold Cert.RefRun.final
  pointwise

/-- The sums agree. -/
theorem sums_agree : Cert.RefRun.final x w = sumsOut x w := by
  funext j
  idx_vars j
  exact final_apply x w j0 j1

/-- The ids agree. -/
theorem ids_agree : Cert.RefRun.ids x w = idsOut x w := by
  funext j
  idx_vars j
  obtain ⟨p, hp, ep⟩ := idsOut_first x w j0
  obtain ⟨q, hq, eq⟩ := Cert.RefRun.argmax_first (addf (Cert.RefRun.final x w) Cert.RefRun.gumbel) j0 (s := score x w j0) fun q =>
    (congrArg₂ (fun a b : EReal => a + b) (final_apply x w j0 q) (Cert.RefRun.gumbel_apply j0 q)).symm
  rw [ep, hp.unique hq]
  exact eq

/-- The value claim. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => idsOut (X m c) (W m c), fun c => sumsOut (X m c) (W m c), ValueRun.results m g, ?_⟩
  refine θ_run_mono (Cert.RefRun.run m' g') fun r h c => ?_
  obtain ⟨h4, h18, h0, h1⟩ := h c
  obtain ⟨e0, e1⟩ := hagree c
  refine ⟨h18.trans ?_, h4.trans ?_, h0, h1⟩
  · rw [e0, e1]
    exact ids_agree _ _
  · rw [e0, e1]
    exact sums_agree _ _

end Cert.Value
end
-- ==== Proof.lean ====
/-
  The claims, put together: the frames of the kernel, bit-exact and idealized, and of the reference, that the idealized
  kernel is the kernel's own text, and that its results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.RefRun
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => Cert.Sampler.frame_kernel m g,
    fun m g _ => Cert.Sampler.frame_at m g,
    Cert.RefRun.frame,
    trivial,
    Cert.Value.algebraic⟩

end Cert.Proof

end
